-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)) (v5 : (c : Dev Cert.Kernel3Ideal.nD) → Buf (Elt Ideal) ((c.tc : Thread Cert.Kernel3Ideal.nD Cert.Kernel3Ideal.τ).loc Cert.Kernel3Ideal.main_v8_5)) (v6 : (c : Dev Cert.Kernel3Ideal.nD) → Buf (Elt Ideal) ((c.tc : Thread Cert.Kernel3Ideal.nD Cert.Kernel3Ideal.τ).loc Cert.Kernel3Ideal.main_v8_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_v8_5) = v5 c
          ∧ r.2.mem ((c.tc : Thread Cert.Kernel3Ideal.nD Cert.Kernel3Ideal.τ).loc Cert.Kernel3Ideal.main_v8_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_v26) = v3 c
          ∧ r.2.mem ((c.tc : Thread Cert.Reference3Ideal.nD Cert.Reference3Ideal.τ).loc Cert.Reference3Ideal.main_v28) = v4 c
          ∧ r.2.mem ((c.tc : Thread Cert.Reference3Ideal.nD Cert.Reference3Ideal.τ).loc Cert.Reference3Ideal.main_v30) = v5 c
          ∧ r.2.mem ((c.tc : Thread Cert.Reference3Ideal.nD Cert.Reference3Ideal.τ).loc Cert.Reference3Ideal.main_v32) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v128) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v67) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S128x8x2048 : Shape := ⟨3, ![128, 8, 2048]⟩
abbrev S1x2048 : Shape := ⟨2, ![1, 2048]⟩
abbrev S1x2048x10256 : Shape := ⟨3, ![1, 2048, 10256]⟩
abbrev S1024x2048 : Shape := ⟨2, ![1024, 2048]⟩
abbrev S2048 : Shape := ⟨1, ![2048]⟩
abbrev S2048x10256 : Shape := ⟨2, ![2048, 10256]⟩
abbrev S10256x2048 : Shape := ⟨2, ![10256, 2048]⟩
abbrev S1024x10240 : Shape := ⟨2, ![1024, 10240]⟩
abbrev S1024x128 : Shape := ⟨2, ![1024, 128]⟩
abbrev S10240x2048 : Shape := ⟨2, ![10240, 2048]⟩
abbrev S128x2048 : Shape := ⟨2, ![128, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x10256, .f32⟩
  | .hbm, ⟨3, _⟩ => ⟨S1024x2048, .f32⟩
  | .hbm, ⟨4, _⟩ => ⟨S2048, .f32⟩
  | .hbm, ⟨5, _⟩ => ⟨S1x2048, .f32⟩
  | .hbm, ⟨6, _⟩ => ⟨S2048x10256, .f32⟩
  | .hbm, ⟨7, _⟩ => ⟨S10256x2048, .f32⟩
  | .hbm, ⟨8, _⟩ => ⟨S1024x10240, .bf16⟩
  | .hbm, ⟨9, _⟩ => ⟨S1024x128, .bf16⟩
  | .hbm, ⟨10, _⟩ => ⟨S10240x2048, .bf16⟩
  | .hbm, ⟨11, _⟩ => ⟨S128x2048, .bf16⟩
  | .local _ .vmem, ⟨0, _⟩ => ⟨S1024x2048, .f32⟩
  | .local _ .vmem, ⟨1, _⟩ => ⟨S1x2048, .f32⟩
  | .local _ .vmem, ⟨2, _⟩ => ⟨S1024x2048, .f32⟩
  | .local _ .vmem, ⟨3, _⟩ => ⟨S1024x2048, .f32⟩
  | .local _ .vmem, ⟨4, _⟩ => ⟨S128x2048, .f32⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S1024x2048, .bf16⟩
  | .local _ .vmem, ⟨9, _⟩ => ⟨S1024x2048, .bf16⟩
  | .local _ .vmem, ⟨10, _⟩ => ⟨S128x2048, .bf16⟩
  | .local _ .vmem, ⟨11, _⟩ => ⟨S1024x2048, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![1, 10], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c1024_i32_0 : BitVec 32 := 1024#32
  let v1 : BitVec 32 := Scalar.muli arg1 c1024_i32_0
  let c6144_i32 : BitVec 32 := 6144#32
  let v2 : BitVec 1 := Scalar.cmpi .sge v1 c6144_i32
  let c16_i32 : BitVec 32 := 16#32
  let c0_i32 : BitVec 32 := 0#32
  let v3 : BitVec 32 := Scalar.select v2 c16_i32 c0_i32
  let v4 : BitVec 32 := Scalar.addi v0 v3
  v4
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1024_i32_0 : BitVec 32 := 1024#32
  let v1 : BitVec 32 := Scalar.muli arg1 c1024_i32_0
  let c6144_i32 : BitVec 32 := 6144#32
  let v2 : BitVec 1 := Scalar.cmpi .sge v1 c6144_i32
  let c16_i32 : BitVec 32 := 16#32
  let c0_i32 : BitVec 32 := 0#32
  let v3 : BitVec 32 := Scalar.select v2 c16_i32 c0_i32
  let v4 : BitVec 32 := Scalar.addi v0 v3
  let v5 : BitVec 32 := v4
  let c0_i32_1 : BitVec 32 := 0#32
  let c0_i32_2 : BitVec 32 := 0#32
  ![v5.toNat, c0_i32_1.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let c0_i32 : BitVec 32 := 0#32
  let c0_i32_0 : BitVec 32 := 0#32
  ![c48_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S128x8x2048 : Shape := ⟨3, ![128, 8, 2048]⟩
abbrev S1x2048 : Shape := ⟨2, ![1, 2048]⟩
abbrev S1x2048x10256 : Shape := ⟨3, ![1, 2048, 10256]⟩
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S2048x10256 : Shape := ⟨2, ![2048, 10256]⟩
abbrev S1024x10256 : Shape := ⟨2, ![1024, 10256]⟩
abbrev S1024x6144 : Shape := ⟨2, ![1024, 6144]⟩
abbrev S1024x4096 : Shape := ⟨2, ![1024, 4096]⟩
abbrev S1024x10240 : Shape := ⟨2, ![1024, 10240]⟩
abbrev S10256x2048 : Shape := ⟨2, ![10256, 2048]⟩
abbrev S6144x2048 : Shape := ⟨2, ![6144, 2048]⟩
abbrev S4096x2048 : Shape := ⟨2, ![4096, 2048]⟩
abbrev S10240x2048 : Shape := ⟨2, ![10240, 2048]⟩
abbrev S1024x128 : Shape := ⟨2, ![1024, 128]⟩
abbrev S128x2048 : Shape := ⟨2, ![128, 2048]⟩

abbrev nBuf : Space → Nat
  | .hbm => 37
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x10256, .f32⟩
  | .hbm, ⟨3, _⟩ => ⟨S1024x2048, .f32⟩
  | .hbm, ⟨4, _⟩ => ⟨S2048, .f32⟩
  | .hbm, ⟨5, _⟩ => ⟨S1024x2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x2048, .f32⟩
  | .hbm, ⟨17, _⟩ => ⟨S1024x2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S2048x10256, .f32⟩
  | .hbm, ⟨22, _⟩ => ⟨S1024x10256, .f32⟩
  | .hbm, ⟨23, _⟩ => ⟨S1024x6144, .f32⟩
  | .hbm, ⟨24, _⟩ => ⟨S1024x4096, .f32⟩
  | .hbm, ⟨25, _⟩ => ⟨S1024x10240, .f32⟩
  | .hbm, ⟨26, _⟩ => ⟨S2048x10256, .f32⟩
  | .hbm, ⟨27, _⟩ => ⟨S10256x2048, .f32⟩
  | .hbm, ⟨28, _⟩ => ⟨S6144x2048, .f32⟩
  | .hbm, ⟨29, _⟩ => ⟨S4096x2048, .f32⟩
  | .hbm, ⟨30, _⟩ => ⟨S10240x2048, .f32⟩
  | .hbm, ⟨31, _⟩ => ⟨S1024x10240, .bf16⟩
  | .hbm, ⟨32, _⟩ => ⟨S1024x128, .f32⟩
  | .hbm, ⟨33, _⟩ => ⟨S1024x128, .bf16⟩
  | .hbm, ⟨34, _⟩ => ⟨S10240x2048, .bf16⟩
  | .hbm, ⟨35, _⟩ => ⟨S128x2048, .f32⟩
  | .hbm, ⟨36, _⟩ => ⟨S128x2048, .bf16⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Kernel2.lean ====
abbrev S8192x2048 : Shape := ⟨2, ![8192, 2048]⟩
abbrev S1024x2048 : Shape := ⟨2, ![1024, 2048]⟩
abbrev S4x2048x2048 : Shape := ⟨3, ![4, 2048, 2048]⟩
abbrev S128x8x2048 : Shape := ⟨3, ![128, 8, 2048]⟩
abbrev S1x4x2048x256 : Shape := ⟨4, ![1, 4, 2048, 256]⟩
abbrev S1x128x8x256 : Shape := ⟨4, ![1, 128, 8, 256]⟩
abbrev S1x2048x2048 : Shape := ⟨3, ![1, 2048, 2048]⟩
abbrev S1x2048 : Shape := ⟨2, ![1, 2048]⟩
abbrev S1x256x2048 : Shape := ⟨3, ![1, 256, 2048]⟩
abbrev S2048x2048 : Shape := ⟨2, ![2048, 2048]⟩
abbrev S2048 : Shape := ⟨1, ![2048]⟩
abbrev S256x2048 : Shape := ⟨2, ![256, 2048]⟩
abbrev S4x2048x256 : Shape := ⟨3, ![4, 2048, 256]⟩
abbrev S8192x256 : Shape := ⟨2, ![8192, 256]⟩
abbrev S128x8x256 : Shape := ⟨3, ![128, 8, 256]⟩
abbrev S1024x256 : Shape := ⟨2, ![1024, 256]⟩
abbrev S512x2048 : Shape := ⟨2, ![512, 2048]⟩
abbrev S512x256 : Shape := ⟨2, ![512, 256]⟩
abbrev S2048x256 : Shape := ⟨2, ![2048, 256]⟩
abbrev S512 : Shape := ⟨1, ![512]⟩
abbrev S512x1 : Shape := ⟨2, ![512, 1]⟩
abbrev S256x256 : Shape := ⟨2, ![256, 256]⟩
abbrev S512x512 : Shape := ⟨2, ![512, 512]⟩

abbrev nBuf : Space → Nat
  | .hbm => 26
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S4x2048x2048, .f32⟩
  | .hbm, ⟨3, _⟩ => ⟨S128x8x2048, .f32⟩
  | .hbm, ⟨4, _⟩ => ⟨S1x4x2048x256, .f32⟩
  | .hbm, ⟨5, _⟩ => ⟨S1x128x8x256, .f32⟩
  | .hbm, ⟨6, _⟩ => ⟨S1x2048x2048, .f32⟩
  | .hbm, ⟨7, _⟩ => ⟨S1x2048, .f32⟩
  | .hbm, ⟨8, _⟩ => ⟨S1x2048x2048, .f32⟩
  | .hbm, ⟨9, _⟩ => ⟨S1x256x2048, .f32⟩
  | .hbm, ⟨10, _⟩ => ⟨S2048x2048, .f32⟩
  | .hbm, ⟨11, _⟩ => ⟨S2048x2048, .bf16⟩
  | .hbm, ⟨12, _⟩ => ⟨S2048, .f32⟩
  | .hbm, ⟨13, _⟩ => ⟨S1x2048, .f32⟩
  | .hbm, ⟨14, _⟩ => ⟨S2048x2048, .f32⟩
  | .hbm, ⟨15, _⟩ => ⟨S2048x2048, .bf16⟩
  | .hbm, ⟨16, _⟩ => ⟨S256x2048, .f32⟩
  | .hbm, ⟨17, _⟩ => ⟨S256x2048, .bf16⟩
  | .hbm, ⟨18, _⟩ => ⟨S8192x2048, .f32⟩
  | .hbm, ⟨19, _⟩ => ⟨S1024x2048, .f32⟩
  | .hbm, ⟨20, _⟩ => ⟨S4x2048x256, .f32⟩
  | .hbm, ⟨21, _⟩ => ⟨S8192x256, .f32⟩
  | .hbm, ⟨22, _⟩ => ⟨S128x8x256, .f32⟩
  | .hbm, ⟨23, _⟩ => ⟨S1024x256, .f32⟩
  | .hbm, ⟨24, _⟩ => ⟨S8192x2048, .f32⟩
  | .hbm, ⟨25, _⟩ => ⟨S1024x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S512x2048, .bf16⟩
  | .local _ .vmem, ⟨7, _⟩ => ⟨S512x2048, .f32⟩
  | .local _ .vmem, ⟨8, _⟩ => ⟨S512x256, .f32⟩
  | .local _ .vmem, ⟨9, _⟩ => ⟨S2048x2048, .bf16⟩
  | .local _ .vmem, ⟨10, _⟩ => ⟨S1x2048, .f32⟩
  | .local _ .vmem, ⟨11, _⟩ => ⟨S2048x2048, .bf16⟩
  | .local _ .vmem, ⟨12, _⟩ => ⟨S256x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference2Ideal.lean ====
abbrev S8192x2048 : Shape := ⟨2, ![8192, 2048]⟩
abbrev S1024x2048 : Shape := ⟨2, ![1024, 2048]⟩
abbrev S4x2048x2048 : Shape := ⟨3, ![4, 2048, 2048]⟩
abbrev S128x8x2048 : Shape := ⟨3, ![128, 8, 2048]⟩
abbrev S1x4x2048x256 : Shape := ⟨4, ![1, 4, 2048, 256]⟩
abbrev S1x128x8x256 : Shape := ⟨4, ![1, 128, 8, 256]⟩
abbrev S1x2048x2048 : Shape := ⟨3, ![1, 2048, 2048]⟩
abbrev S1x2048 : Shape := ⟨2, ![1, 2048]⟩
abbrev S1x256x2048 : Shape := ⟨3, ![1, 256, 2048]⟩
abbrev S2048x2048 : Shape := ⟨2, ![2048, 2048]⟩
abbrev S2048 : Shape := ⟨1, ![2048]⟩
abbrev S256x2048 : Shape := ⟨2, ![256, 2048]⟩
abbrev S4x2048x256 : Shape := ⟨3, ![4, 2048, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S128x8x256 : Shape := ⟨3, ![128, 8, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S4x2048x2048, .f32⟩
  | .hbm, ⟨3, _⟩ => ⟨S128x8x2048, .f32⟩
  | .hbm, ⟨4, _⟩ => ⟨S1x4x2048x256, .f32⟩
  | .hbm, ⟨5, _⟩ => ⟨S1x128x8x256, .f32⟩
  | .hbm, ⟨6, _⟩ => ⟨S1x2048x2048, .f32⟩
  | .hbm, ⟨7, _⟩ => ⟨S1x2048, .f32⟩
  | .hbm, ⟨8, _⟩ => ⟨S1x2048x2048, .f32⟩
  | .hbm, ⟨9, _⟩ => ⟨S1x256x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S256x2048, .f32⟩
  | .hbm, ⟨14, _⟩ => ⟨S8192x2048, .f32⟩
  | .hbm, ⟨15, _⟩ => ⟨S4x2048x256, .f32⟩
  | .hbm, ⟨16, _⟩ => ⟨S8192x256, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S1024x2048, .f32⟩
  | .hbm, ⟨49, _⟩ => ⟨S128x8x256, .f32⟩
  | .hbm, ⟨50, _⟩ => ⟨S1024x256, .f32⟩
  | .hbm, ⟨51, _⟩ => ⟨S1024x2048, .f32⟩
  | .hbm, ⟨52, _⟩ => ⟨S1024x2048, .f32⟩
  | .hbm, ⟨53, _⟩ => ⟨S1024x2048, .f32⟩
  | .hbm, ⟨54, _⟩ => ⟨S_, .f32⟩
  | .hbm, ⟨55, _⟩ => ⟨S1024, .f32⟩
  | .hbm, ⟨56, _⟩ => ⟨S1024x1, .f32⟩
  | .hbm, ⟨57, _⟩ => ⟨S_, .f32⟩
  | .hbm, ⟨58, _⟩ => ⟨S1024x1, .f32⟩
  | .hbm, ⟨59, _⟩ => ⟨S1024x1, .f32⟩
  | .hbm, ⟨60, _⟩ => ⟨S_, .f32⟩
  | .hbm, ⟨61, _⟩ => ⟨S1024x1, .f32⟩
  | .hbm, ⟨62, _⟩ => ⟨S1024x1, .f32⟩
  | .hbm, ⟨63, _⟩ => ⟨S1024x1, .f32⟩
  | .hbm, ⟨64, _⟩ => ⟨S1024x2048, .f32⟩
  | .hbm, ⟨65, _⟩ => ⟨S1024x2048, .f32⟩
  | .hbm, ⟨66, _⟩ => ⟨S1x2048, .f32⟩
  | .hbm, ⟨67, _⟩ => ⟨S1024x2048, .f32⟩
  | .hbm, ⟨68, _⟩ => ⟨S1024x2048, .f32⟩
  | .hbm, ⟨69, _⟩ => ⟨S1024x2048, .f32⟩
  | .hbm, ⟨70, _⟩ => ⟨S1024x2048, .f32⟩
  | .hbm, ⟨71, _⟩ => ⟨S1024x2048, .f32⟩
  | .hbm, ⟨72, _⟩ => ⟨S1024x2048, .f32⟩
  | .hbm, ⟨73, _⟩ => ⟨S_, .f32⟩
  | .hbm, ⟨74, _⟩ => ⟨S1024x2048, .f32⟩
  | .hbm, ⟨75, _⟩ => ⟨S1024x2048, .f32⟩
  | .hbm, ⟨76, _⟩ => ⟨S_, .f32⟩
  | .hbm, ⟨77, _⟩ => ⟨S1024x2048, .f32⟩
  | .hbm, ⟨78, _⟩ => ⟨S1024x2048, .f32⟩
  | .hbm, ⟨79, _⟩ => ⟨S1024x2048, .f32⟩
  | .hbm, ⟨80, _⟩ => ⟨S1024x2048, .f32⟩
  | .hbm, ⟨81, _⟩ => ⟨S1024x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Kernel3.lean ====
abbrev S4x2048x2048 : Shape := ⟨3, ![4, 2048, 2048]⟩
abbrev S1x2048 : Shape := ⟨2, ![1, 2048]⟩
abbrev S10240x2048 : Shape := ⟨2, ![10240, 2048]⟩
abbrev S128x2048 : Shape := ⟨2, ![128, 2048]⟩
abbrev S1x1024x2048 : Shape := ⟨3, ![1, 1024, 2048]⟩
abbrev S1x2048x2048 : Shape := ⟨3, ![1, 2048, 2048]⟩
abbrev S1x256x2048 : Shape := ⟨3, ![1, 256, 2048]⟩
abbrev S8192x2048 : Shape := ⟨2, ![8192, 2048]⟩
abbrev S2048 : Shape := ⟨1, ![2048]⟩
abbrev S1024x2048 : Shape := ⟨2, ![1024, 2048]⟩
abbrev S2048x2048 : Shape := ⟨2, ![2048, 2048]⟩
abbrev S256x2048 : Shape := ⟨2, ![256, 2048]⟩
abbrev S8192x10240 : Shape := ⟨2, ![8192, 10240]⟩
abbrev S8192x128 : Shape := ⟨2, ![8192, 128]⟩
abbrev S32x2048 : Shape := ⟨2, ![32, 2048]⟩
abbrev S64x2048 : Shape := ⟨2, ![64, 2048]⟩
abbrev S16x2048 : Shape := ⟨2, ![16, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 24
  | .vmem => 31
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S10240x2048, .bf16⟩
  | .hbm, ⟨3, _⟩ => ⟨S128x2048, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048x2048, .f32⟩
  | .hbm, ⟨8, _⟩ => ⟨S1x256x2048, .f32⟩
  | .hbm, ⟨9, _⟩ => ⟨S8192x2048, .f32⟩
  | .hbm, ⟨10, _⟩ => ⟨S2048, .f32⟩
  | .hbm, ⟨11, _⟩ => ⟨S1x2048, .f32⟩
  | .hbm, ⟨12, _⟩ => ⟨S1024x2048, .f32⟩
  | .hbm, ⟨13, _⟩ => ⟨S1024x2048, .f32⟩
  | .hbm, ⟨14, _⟩ => ⟨S2048x2048, .f32⟩
  | .hbm, ⟨15, _⟩ => ⟨S2048x2048, .f32⟩
  | .hbm, ⟨16, _⟩ => ⟨S256x2048, .f32⟩
  | .hbm, ⟨17, _⟩ => ⟨S8192x10240, .bf16⟩
  | .hbm, ⟨18, _⟩ => ⟨S8192x128, .bf16⟩
  | .hbm, ⟨19, _⟩ => ⟨S1024x2048, .bf16⟩
  | .hbm, ⟨20, _⟩ => ⟨S1024x2048, .bf16⟩
  | .hbm, ⟨21, _⟩ => ⟨S2048x2048, .bf16⟩
  | .hbm, ⟨22, _⟩ => ⟨S2048x2048, .bf16⟩
  | .hbm, ⟨23, _⟩ => ⟨S256x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S128x2048, .bf16⟩
  | .local _ .vmem, ⟨6, _⟩ => ⟨S32x2048, .f32⟩
  | .local _ .vmem, ⟨7, _⟩ => ⟨S32x2048, .f32⟩
  | .local _ .vmem, ⟨8, _⟩ => ⟨S32x2048, .f32⟩
  | .local _ .vmem, ⟨9, _⟩ => ⟨S32x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S16x2048, .f32⟩
  | .local _ .vmem, ⟨15, _⟩ => ⟨S16x2048, .f32⟩
  | .local _ .vmem, ⟨16, _⟩ => ⟨S1024x2048, .bf16⟩
  | .local _ .vmem, ⟨17, _⟩ => ⟨S1024x2048, .bf16⟩
  | .local _ .vmem, ⟨18, _⟩ => ⟨S1024x128, .bf16⟩
  | .local _ .vmem, ⟨19, _⟩ => ⟨S1024x128, .bf16⟩
  | .local _ .vmem, ⟨20, _⟩ => ⟨S32x2048, .bf16⟩
  | .local _ .vmem, ⟨21, _⟩ => ⟨S32x2048, .bf16⟩
  | .local _ .vmem, ⟨22, _⟩ => ⟨S32x2048, .bf16⟩
  | .local _ .vmem, ⟨23, _⟩ => ⟨S32x2048, .bf16⟩
  | .local _ .vmem, ⟨24, _⟩ => ⟨S64x2048, .bf16⟩
  | .local _ .vmem, ⟨25, _⟩ => ⟨S64x2048, .bf16⟩
  | .local _ .vmem, ⟨26, _⟩ => ⟨S64x2048, .bf16⟩
  | .local _ .vmem, ⟨27, _⟩ => ⟨S64x2048, .bf16⟩
  | .local _ .vmem, ⟨28, _⟩ => ⟨S16x2048, .bf16⟩
  | .local _ .vmem, ⟨29, _⟩ => ⟨S16x2048, .bf16⟩
  | .local _ .vmem, ⟨30, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S4x2048x2048 : Shape := ⟨3, ![4, 2048, 2048]⟩
abbrev S1x2048 : Shape := ⟨2, ![1, 2048]⟩
abbrev S10240x2048 : Shape := ⟨2, ![10240, 2048]⟩
abbrev S128x2048 : Shape := ⟨2, ![128, 2048]⟩
abbrev S1x1024x2048 : Shape := ⟨3, ![1, 1024, 2048]⟩
abbrev S1x2048x2048 : Shape := ⟨3, ![1, 2048, 2048]⟩
abbrev S1x256x2048 : Shape := ⟨3, ![1, 256, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x10240 : Shape := ⟨2, ![2048, 10240]⟩
abbrev S8192x10240 : Shape := ⟨2, ![8192, 10240]⟩
abbrev S2048x128 : Shape := ⟨2, ![2048, 128]⟩
abbrev S8192x128 : Shape := ⟨2, ![8192, 128]⟩
abbrev S1024x2048 : Shape := ⟨2, ![1024, 2048]⟩
abbrev S2048x2048 : Shape := ⟨2, ![2048, 2048]⟩
abbrev S256x2048 : Shape := ⟨2, ![256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S10240x2048, .bf16⟩
  | .hbm, ⟨3, _⟩ => ⟨S128x2048, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048x2048, .f32⟩
  | .hbm, ⟨8, _⟩ => ⟨S1x256x2048, .f32⟩
  | .hbm, ⟨9, _⟩ => ⟨S8192x2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S10240x2048, .f32⟩
  | .hbm, ⟨28, _⟩ => ⟨S2048x10240, .f32⟩
  | .hbm, ⟨29, _⟩ => ⟨S8192x10240, .f32⟩
  | .hbm, ⟨30, _⟩ => ⟨S8192x10240, .bf16⟩
  | .hbm, ⟨31, _⟩ => ⟨S128x2048, .f32⟩
  | .hbm, ⟨32, _⟩ => ⟨S2048x128, .f32⟩
  | .hbm, ⟨33, _⟩ => ⟨S8192x128, .f32⟩
  | .hbm, ⟨34, _⟩ => ⟨S8192x128, .bf16⟩
  | .hbm, ⟨35, _⟩ => ⟨S1024x2048, .f32⟩
  | .hbm, ⟨36, _⟩ => ⟨S1024x2048, .bf16⟩
  | .hbm, ⟨37, _⟩ => ⟨S1024x2048, .f32⟩
  | .hbm, ⟨38, _⟩ => ⟨S1024x2048, .bf16⟩
  | .hbm, ⟨39, _⟩ => ⟨S2048x2048, .f32⟩
  | .hbm, ⟨40, _⟩ => ⟨S2048x2048, .bf16⟩
  | .hbm, ⟨41, _⟩ => ⟨S2048x2048, .f32⟩
  | .hbm, ⟨42, _⟩ => ⟨S2048x2048, .bf16⟩
  | .hbm, ⟨43, _⟩ => ⟨S256x2048, .f32⟩
  | .hbm, ⟨44, _⟩ => ⟨S256x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S1024x10240 : Shape := ⟨2, ![1024, 10240]⟩
abbrev S1024x128 : Shape := ⟨2, ![1024, 128]⟩
abbrev S1x128x4x128x256 : Shape := ⟨5, ![1, 128, 4, 128, 256]⟩
abbrev S1x1024 : Shape := ⟨2, ![1, 1024]⟩
abbrev S1x4x128x128 : Shape := ⟨4, ![1, 4, 128, 128]⟩
abbrev S1x4x128 : Shape := ⟨3, ![1, 4, 128]⟩
abbrev S1x16x512 : Shape := ⟨3, ![1, 16, 512]⟩
abbrev S1x512 : Shape := ⟨2, ![1, 512]⟩
abbrev S1x4x256 : Shape := ⟨3, ![1, 4, 256]⟩
abbrev S1024x2048 : Shape := ⟨2, ![1024, 2048]⟩
abbrev S1x1024x1 : Shape := ⟨3, ![1, 1024, 1]⟩
abbrev S16x512 : Shape := ⟨2, ![16, 512]⟩
abbrev S_ : Shape := ⟨0, ![]⟩
abbrev S112x512 : Shape := ⟨2, ![112, 512]⟩
abbrev S128x512 : Shape := ⟨2, ![128, 512]⟩
abbrev S1024 : Shape := ⟨1, ![1024]⟩
abbrev S1024x1 : Shape := ⟨2, ![1024, 1]⟩
abbrev S4x128x128 : Shape := ⟨3, ![4, 128, 128]⟩
abbrev S4x128 : Shape := ⟨2, ![4, 128]⟩
abbrev S128x4 : Shape := ⟨2, ![128, 4]⟩
abbrev S512 : Shape := ⟨1, ![512]⟩
abbrev S4x256 : Shape := ⟨2, ![4, 256]⟩
abbrev S128x4x128x256 : Shape := ⟨4, ![128, 4, 128, 256]⟩
abbrev S1024x1024 : Shape := ⟨2, ![1024, 1024]⟩
abbrev S128x10240 : Shape := ⟨2, ![128, 10240]⟩
abbrev S128x128 : Shape := ⟨2, ![128, 128]⟩
abbrev S16x4x128x256 : Shape := ⟨4, ![16, 4, 128, 256]⟩
abbrev S128x2048 : Shape := ⟨2, ![128, 2048]⟩
abbrev S128x1024 : Shape := ⟨2, ![128, 1024]⟩
abbrev S8x512 : Shape := ⟨2, ![8, 512]⟩
abbrev S128x256 : Shape := ⟨2, ![128, 256]⟩
abbrev S1x1x128x256 : Shape := ⟨4, ![1, 1, 128, 256]⟩
abbrev S8x128 : Shape := ⟨2, ![8, 128]⟩
abbrev S8x256 : Shape := ⟨2, ![8, 256]⟩
abbrev S128x1 : Shape := ⟨2, ![128, 1]⟩
abbrev S1x128x128 : Shape := ⟨3, ![1, 128, 128]⟩
abbrev S1x4 : Shape := ⟨2, ![1, 4]⟩
abbrev S128 : Shape := ⟨1, ![128]⟩
abbrev S1x256 : Shape := ⟨2, ![1, 256]⟩
abbrev S1024x512 : Shape := ⟨2, ![1024, 512]⟩

abbrev nBuf : Space → Nat
  | .hbm => 36
  | .vmem => 20
  | .smem => 0
  | _ => 0

abbrev bufTy : (tb : Table) → Fin (tcTables nBuf tb) → BufTy
  | .hbm, ⟨0, _⟩ => ⟨S1024x10240, .bf16⟩
  | .hbm, ⟨1, _⟩ => ⟨S1024x128, .bf16⟩
  | .hbm, ⟨2, _⟩ => ⟨S1x128x4x128x256, .f32⟩
  | .hbm, ⟨3, _⟩ => ⟨S1x1024, .f32⟩
  | .hbm, ⟨4, _⟩ => ⟨S1x4x128x128, .f32⟩
  | .hbm, ⟨5, _⟩ => ⟨S1x4x128, .f32⟩
  | .hbm, ⟨6, _⟩ => ⟨S1x16x512, .f32⟩
  | .hbm, ⟨7, _⟩ => ⟨S1x512, .f32⟩
  | .hbm, ⟨8, _⟩ => ⟨S1x4x256, .f32⟩
  | .hbm, ⟨9, _⟩ => ⟨S1024x2048, .bf16⟩
  | .hbm, ⟨10, _⟩ => ⟨S1024x2048, .bf16⟩
  | .hbm, ⟨11, _⟩ => ⟨S1x1024x1, .f32⟩
  | .hbm, ⟨12, _⟩ => ⟨S16x512, .f32⟩
  | .hbm, ⟨13, _⟩ => ⟨S_, .f32⟩
  | .hbm, ⟨14, _⟩ => ⟨S112x512, .f32⟩
  | .hbm, ⟨15, _⟩ => ⟨S128x512, .f32⟩
  | .hbm, ⟨16, _⟩ => ⟨S128x512, .bf16⟩
  | .hbm, ⟨17, _⟩ => ⟨S1024, .f32⟩
  | .hbm, ⟨18, _⟩ => ⟨S1x1024, .f32⟩
  | .hbm, ⟨19, _⟩ => ⟨S1024x1, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S4x128x128, .f32⟩
  | .hbm, ⟨24, _⟩ => ⟨S4x128, .f32⟩
  | .hbm, ⟨25, _⟩ => ⟨S128x4, .f32⟩
  | .hbm, ⟨26, _⟩ => ⟨S512, .f32⟩
  | .hbm, ⟨27, _⟩ => ⟨S1x512, .f32⟩
  | .hbm, ⟨28, _⟩ => ⟨S4x256, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S128x4x128x256, .f32⟩
  | .hbm, ⟨33, _⟩ => ⟨S1024x2048, .bf16⟩
  | .hbm, ⟨34, _⟩ => ⟨S1024x1024, .f32⟩
  | .hbm, ⟨35, _⟩ => ⟨S128x4x128x256, .f32⟩
  | .local _ .vmem, ⟨0, _⟩ => ⟨S128x10240, .bf16⟩
  | .local _ .vmem, ⟨1, _⟩ => ⟨S128x10240, .bf16⟩
  | .local _ .vmem, ⟨2, _⟩ => ⟨S128x128, .bf16⟩
  | .local _ .vmem, ⟨3, _⟩ => ⟨S128x128, .bf16⟩
  | .local _ .vmem, ⟨4, _⟩ => ⟨S16x4x128x256, .f32⟩
  | .local _ .vmem, ⟨5, _⟩ => ⟨S16x4x128x256, .f32⟩
  | .local _ .vmem, ⟨6, _⟩ => ⟨S1x1024, .f32⟩
  | .local _ .vmem, ⟨7, _⟩ => ⟨S4x128x128, .f32⟩
  | .local _ .vmem, ⟨8, _⟩ => ⟨S128x4, .f32⟩
  | .local _ .vmem, ⟨9, _⟩ => ⟨S128x512, .bf16⟩
  | .local _ .vmem, ⟨10, _⟩ => ⟨S1x512, .f32⟩
  | .local _ .vmem, ⟨11, _⟩ => ⟨S1x1024, .f32⟩
  | .local _ .vmem, ⟨12, _⟩ => ⟨S1024x2048, .bf16⟩
  | .local _ .vmem, ⟨13, _⟩ => ⟨S1024x2048, .bf16⟩
  | .local _ .vmem, ⟨14, _⟩ => ⟨S128x2048, .bf16⟩
  | .local _ .vmem, ⟨15, _⟩ => ⟨S128x2048, .bf16⟩
  | .local _ .vmem, ⟨16, _⟩ => ⟨S128x1024, .f32⟩
  | .local _ .vmem, ⟨17, _⟩ => ⟨S128x1024, .f32⟩
  | .local _ .vmem, ⟨18, _⟩ => ⟨S16x4x128x256, .f32⟩
  | .local _ .vmem, ⟨19, _⟩ => ⟨S16x4x128x256, .f32⟩
  | _, _ => ⟨S1024x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x4x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S1024x10240 : Shape := ⟨2, ![1024, 10240]⟩
abbrev S1024x128 : Shape := ⟨2, ![1024, 128]⟩
abbrev S1x128x4x128x256 : Shape := ⟨5, ![1, 128, 4, 128, 256]⟩
abbrev S1x1024 : Shape := ⟨2, ![1, 1024]⟩
abbrev S1x4x128x128 : Shape := ⟨4, ![1, 4, 128, 128]⟩
abbrev S1x4x128 : Shape := ⟨3, ![1, 4, 128]⟩
abbrev S1x16x512 : Shape := ⟨3, ![1, 16, 512]⟩
abbrev S1x512 : Shape := ⟨2, ![1, 512]⟩
abbrev S1x4x256 : Shape := ⟨3, ![1, 4, 256]⟩
abbrev S1024x2048 : Shape := ⟨2, ![1024, 2048]⟩
abbrev S1024x512 : Shape := ⟨2, ![1024, 512]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1024x16 : Shape := ⟨2, ![1024, 16]⟩
abbrev S16x512 : Shape := ⟨2, ![16, 512]⟩
abbrev S512 : Shape := ⟨1, ![512]⟩
abbrev S128x8x4x128 : Shape := ⟨4, ![128, 8, 4, 128]⟩
abbrev S128x8x4x256 : Shape := ⟨4, ![128, 8, 4, 256]⟩
abbrev S128x4x128x256 : Shape := ⟨4, ![128, 4, 128, 256]⟩
abbrev S8x8 : Shape := ⟨2, ![8, 8]⟩
abbrev S1x8x8x1x1 : Shape := ⟨5, ![1, 8, 8, 1, 1]⟩
abbrev S128x1x8x4x128 : Shape := ⟨5, ![128, 1, 8, 4, 128]⟩
abbrev S128x8x8x4x128 : Shape := ⟨5, ![128, 8, 8, 4, 128]⟩
abbrev S1x1x8x8 : Shape := ⟨4, ![1, 1, 8, 8]⟩
abbrev S128x4x8x8 : Shape := ⟨4, ![128, 4, 8, 8]⟩
abbrev S128x4x256x8 : Shape := ⟨4, ![128, 4, 256, 8]⟩
abbrev S128x1x4x128 : Shape := ⟨4, ![128, 1, 4, 128]⟩
abbrev S128x4x128 : Shape := ⟨3, ![128, 4, 128]⟩
abbrev S128x4x128x1 : Shape := ⟨4, ![128, 4, 128, 1]⟩
abbrev S1x8x8 : Shape := ⟨3, ![1, 8, 8]⟩
abbrev S1x4x8x8 : Shape := ⟨4, ![1, 4, 8, 8]⟩
abbrev S4x8x8 : Shape := ⟨3, ![4, 8, 8]⟩
abbrev S4x128x256x8 : Shape := ⟨4, ![4, 128, 256, 8]⟩
abbrev S1x4x8 : Shape := ⟨3, ![1, 4, 8]⟩
abbrev S4x8 : Shape := ⟨2, ![4, 8]⟩
abbrev S8x4 : Shape := ⟨2, ![8, 4]⟩
abbrev S1x8x4x1 : Shape := ⟨4, ![1, 8, 4, 1]⟩
abbrev S4x256 : Shape := ⟨2, ![4, 256]⟩
abbrev S128x8x4 : Shape := ⟨3, ![128, 8, 4]⟩
abbrev S128x8x4x1 : Shape := ⟨4, ![128, 8, 4, 1]⟩
abbrev S1x1x4x256 : Shape := ⟨4, ![1, 1, 4, 256]⟩

abbrev nBuf : Space → Nat
  | .hbm => 215
  | .vmem => 0
  | .smem => 0
  | _ => 0

abbrev hbmTy0_0 (i : Nat) : BufTy := match i % 128 with
  | 0 => ⟨S1024x10240, .bf16⟩
  | 1 => ⟨S1024x128, .bf16⟩
  | 2 => ⟨S1x128x4x128x256, .f32⟩
  | 3 => ⟨S1x1024, .f32⟩
  | 4 => ⟨S1x4x128x128, .f32⟩
  | 5 => ⟨S1x4x128, .f32⟩
  | 6 => ⟨S1x16x512, .f32⟩
  | 7 => ⟨S1x512, .f32⟩
  | 8 => ⟨S1x4x256, .f32⟩
  | 9 => ⟨S1024x2048, .bf16⟩
  | 10 => ⟨S1024x2048, .bf16⟩
  | 11 => ⟨S1024x10240, .f32⟩
  | 12 => ⟨S1024x512, .f32⟩
  | 13 => ⟨S1024x1024, .f32⟩
  | 14 => ⟨S1024x1024, .f32⟩
  | 15 => ⟨S1024, .f32⟩
  | 16 => ⟨S1024x1024, .f32⟩
  | 17 => ⟨S_, .f32⟩
  | 18 => ⟨S1024, .f32⟩
  | 19 => ⟨S1024x1, .f32⟩
  | 20 => ⟨S_, .f32⟩
  | 21 => ⟨S1024x1, .f32⟩
  | 22 => ⟨S1024x1, .f32⟩
  | 23 => ⟨S_, .f32⟩
  | 24 => ⟨S1024x1, .f32⟩
  | 25 => ⟨S1024x1, .f32⟩
  | 26 => ⟨S1024x1, .f32⟩
  | 27 => ⟨S1024x1024, .f32⟩
  | 28 => ⟨S1024x1024, .f32⟩
  | 29 => ⟨S1x1024, .f32⟩
  | 30 => ⟨S1024x1024, .f32⟩
  | 31 => ⟨S1024x1024, .f32⟩
  | 32 => ⟨S1024x16, .bf16⟩
  | 33 => ⟨S1024x16, .f32⟩
  | 34 => ⟨S16x512, .f32⟩
  | 35 => ⟨S1024x512, .f32⟩
  | 36 => ⟨S512, .f32⟩
  | 37 => ⟨S1x512, .f32⟩
  | 38 => ⟨S1024x512, .f32⟩
  | 39 => ⟨S1024x512, .f32⟩
  | 40 => ⟨S1024x512, .f32⟩
  | 41 => ⟨S_, .f32⟩
  | 42 => ⟨S1024x512, .f32⟩
  | 43 => ⟨S1024x512, .f32⟩
  | 44 => ⟨S1024x512, .f32⟩
  | 45 => ⟨S1024x512, .f32⟩
  | 46 => ⟨S1024x512, .i1⟩
  | 47 => ⟨S1024x512, .f32⟩
  | 48 => ⟨S1024x512, .f32⟩
  | 49 => ⟨S1024x512, .f32⟩
  | 50 => ⟨S1024x512, .f32⟩
  | 51 => ⟨S1024x512, .f32⟩
  | 52 => ⟨S1024x512, .f32⟩
  | 53 => ⟨S1024x512, .f32⟩
  | 54 => ⟨S1024x512, .f32⟩
  | 55 => ⟨S1024x512, .f32⟩
  | 56 => ⟨S_, .f32⟩
  | 57 => ⟨S1024x512, .f32⟩
  | 58 => ⟨S1024x512, .f32⟩
  | 59 => ⟨S1024x512, .f32⟩
  | 60 => ⟨S128x8x4x128, .f32⟩
  | 61 => ⟨S_, .f32⟩
  | 62 => ⟨S128x8x4x128, .f32⟩
  | 63 => ⟨S128x8x4x128, .f32⟩
  | 64 => ⟨S128x8x4x128, .f32⟩
  | 65 => ⟨S128x8x4x256, .f32⟩
  | 66 => ⟨S128x8x4x128, .f32⟩
  | 67 => ⟨S128x4x128x256, .f32⟩
  | 68 => ⟨S_, .i1⟩
  | 69 => ⟨S8x8, .i1⟩
  | 70 => ⟨S8x8, .i32⟩
  | 71 => ⟨S_, .i32⟩
  | 72 => ⟨S8x8, .i32⟩
  | 73 => ⟨S8x8, .i32⟩
  | 74 => ⟨S8x8, .i32⟩
  | 75 => ⟨S8x8, .i1⟩
  | 76 => ⟨S_, .i1⟩
  | 77 => ⟨S8x8, .i1⟩
  | 78 => ⟨S8x8, .i1⟩
  | 79 => ⟨S1x8x8x1x1, .i1⟩
  | 80 => ⟨S128x1x8x4x128, .f32⟩
  | 81 => ⟨S_, .f32⟩
  | 82 => ⟨S_, .f32⟩
  | 83 => ⟨S128x8x8x4x128, .i1⟩
  | 84 => ⟨S128x8x8x4x128, .f32⟩
  | 85 => ⟨S128x8x8x4x128, .f32⟩
  | 86 => ⟨S128x8x8x4x128, .f32⟩
  | 87 => ⟨S_, .f32⟩
  | 88 => ⟨S128x8x4x128, .f32⟩
  | 89 => ⟨S128x8x4x128, .f32⟩
  | 90 => ⟨S128x8x4x128, .f32⟩
  | 91 => ⟨S128x8x4x128, .f32⟩
  | 92 => ⟨S128x8x4x128, .f32⟩
  | 93 => ⟨S128x8x4x128, .f32⟩
  | 94 => ⟨S1x1x8x8, .i1⟩
  | 95 => ⟨S128x4x8x8, .f32⟩
  | 96 => ⟨S_, .f32⟩
  | 97 => ⟨S_, .f32⟩
  | 98 => ⟨S128x4x8x8, .i1⟩
  | 99 => ⟨S128x4x8x8, .f32⟩
  | 100 => ⟨S128x4x8x8, .f32⟩
  | 101 => ⟨S128x4x256x8, .f32⟩
  | 102 => ⟨S128x8x4x256, .f32⟩
  | 103 => ⟨S128x4x256x8, .f32⟩
  | 104 => ⟨S128x8x4x256, .f32⟩
  | 105 => ⟨S128x8x4x256, .f32⟩
  | 106 => ⟨S128x1x4x128, .f32⟩
  | 107 => ⟨S128x8x4x128, .f32⟩
  | 108 => ⟨S128x8x4x128, .f32⟩
  | 109 => ⟨S128x8x4x128, .f32⟩
  | 110 => ⟨S128x8x4x128, .f32⟩
  | 111 => ⟨S128x4x128, .f32⟩
  | 112 => ⟨S128x4x128, .f32⟩
  | 113 => ⟨S128x4x128x1, .f32⟩
  | 114 => ⟨S128x4x128x256, .f32⟩
  | 115 => ⟨S128x4x128x256, .f32⟩
  | 116 => ⟨S128x4x128x256, .f32⟩
  | 117 => ⟨S128x4x128x256, .f32⟩
  | 118 => ⟨S_, .i1⟩
  | 119 => ⟨S8x8, .i1⟩
  | 120 => ⟨S8x8, .i32⟩
  | 121 => ⟨S_, .i32⟩
  | 122 => ⟨S8x8, .i32⟩
  | 123 => ⟨S8x8, .i32⟩
  | 124 => ⟨S8x8, .i32⟩
  | 125 => ⟨S8x8, .i1⟩
  | 126 => ⟨S_, .i1⟩
  | 127 => ⟨S8x8, .i1⟩
  | _ => ⟨S1024x10240, .bf16⟩

abbrev hbmTy0_1 (i : Nat) : BufTy := match i % 128 with
  | 0 => ⟨S8x8, .i1⟩
  | 1 => ⟨S1x8x8, .i1⟩
  | 2 => ⟨S1x4x8x8, .f32⟩
  | 3 => ⟨S4x8x8, .f32⟩
  | 4 => ⟨S_, .f32⟩
  | 5 => ⟨S_, .f32⟩
  | 6 => ⟨S4x8x8, .i1⟩
  | 7 => ⟨S4x8x8, .f32⟩
  | 8 => ⟨S4x8x8, .f32⟩
  | 9 => ⟨S128x8x4x256, .f32⟩
  | 10 => ⟨S4x128x256x8, .f32⟩
  | 11 => ⟨S128x8x4x256, .f32⟩
  | 12 => ⟨S1x4x8, .f32⟩
  | 13 => ⟨S4x8, .f32⟩
  | 14 => ⟨S8x4, .f32⟩
  | 15 => ⟨S1x8x4x1, .f32⟩
  | 16 => ⟨S128x8x4x256, .f32⟩
  | 17 => ⟨S128x8x4x256, .f32⟩
  | 18 => ⟨S1024x1024, .f32⟩
  | 19 => ⟨S1024x1024, .f32⟩
  | 20 => ⟨S1024x1024, .f32⟩
  | 21 => ⟨S1024x1024, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S1024x1024, .f32⟩
  | 31 => ⟨S1024x1024, .f32⟩
  | 32 => ⟨S4x256, .f32⟩
  | 33 => ⟨S128x8x4x256, .f32⟩
  | 34 => ⟨S_, .f32⟩
  | 35 => ⟨S128x8x4, .f32⟩
  | 36 => ⟨S128x8x4x1, .f32⟩
  | 37 => ⟨S_, .f32⟩
  | 38 => ⟨S128x8x4x1, .f32⟩
  | 39 => ⟨S128x8x4x1, .f32⟩
  | 40 => ⟨S_, .f32⟩
  | 41 => ⟨S128x8x4x1, .f32⟩
  | 42 => ⟨S128x8x4x1, .f32⟩
  | 43 => ⟨S128x8x4x1, .f32⟩
  | 44 => ⟨S128x8x4x256, .f32⟩
  | 45 => ⟨S128x8x4x256, .f32⟩
  | 46 => ⟨S1x1x4x256, .f32⟩
  | 47 => ⟨S128x8x4x256, .f32⟩
  | 48 => ⟨S128x8x4x256, .f32⟩
  | 49 => ⟨S1024x1024, .f32⟩
  | 50 => ⟨S1024x1024, .f32⟩
  | 51 => ⟨S1024x1024, .f32⟩
  | 52 => ⟨S1024x1024, .f32⟩
  | 53 => ⟨S_, .f32⟩
  | 54 => ⟨S1024x1024, .f32⟩
  | 55 => ⟨S1024x1024, .f32⟩
  | 56 => ⟨S_, .f32⟩
  | 57 => ⟨S1024x1024, .f32⟩
  | 58 => ⟨S1024x1024, .f32⟩
  | 59 => ⟨S1024x1024, .f32⟩
  | 60 => ⟨S1024x1024, .f32⟩
  | 61 => ⟨S1024x2048, .f32⟩
  | 62 => ⟨S1024x2048, .f32⟩
  | 63 => ⟨S1024x2048, .f32⟩
  | 64 => ⟨S_, .f32⟩
  | 65 => ⟨S1024x2048, .f32⟩
  | 66 => ⟨S1024x2048, .f32⟩
  | 67 => ⟨S_, .f32⟩
  | 68 => ⟨S1024x2048, .f32⟩
  | 69 => ⟨S1024x2048, .f32⟩
  | 70 => ⟨S1024x2048, .f32⟩
  | 71 => ⟨S1024x2048, .f32⟩
  | 72 => ⟨S1024x2048, .f32⟩
  | 73 => ⟨S1024x2048, .f32⟩
  | 74 => ⟨S1024x2048, .f32⟩
  | 75 => ⟨S1024x2048, .f32⟩
  | 76 => ⟨S_, .f32⟩
  | 77 => ⟨S1024x2048, .f32⟩
  | 78 => ⟨S1024x2048, .f32⟩
  | 79 => ⟨S_, .f32⟩
  | 80 => ⟨S1024x2048, .f32⟩
  | 81 => ⟨S1024x2048, .f32⟩
  | 82 => ⟨S1024x2048, .f32⟩
  | 83 => ⟨S1024x2048, .f32⟩
  | 84 => ⟨S1024x2048, .f32⟩
  | 85 => ⟨S1024x2048, .f32⟩
  | 86 => ⟨S1024x2048, .bf16⟩
  | _ => ⟨S1024x10240, .bf16⟩

abbrev hbmTy (i : Nat) : BufTy := match i / 128 with
  | 0 => hbmTy0_0 i
  | 1 => hbmTy0_1 i
  | _ => ⟨S1024x10240, .bf16⟩

abbrev bufTy : (tb : Table) → Fin (tcTables nBuf tb) → BufTy
  | .hbm, ⟨i, _⟩ => hbmTy i
  | _, _ => ⟨S1024x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v26 : Ref sig .tc := ⟨.hbm, 55, rfl⟩
abbrev main_cst_2 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c : Ref sig .tc := ⟨.hbm, 68, rfl⟩
abbrev main_v37 : Ref sig .tc := ⟨.hbm, 69, rfl⟩
abbrev main_call1_v0 : Ref sig .tc := ⟨.hbm, 70, rfl⟩
abbrev main_call1_c : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_0 : Ref sig .tc := ⟨.hbm, 76, rfl⟩
abbrev main_call1_v5 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_4 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_v41 : Ref sig .tc := ⟨.hbm, 86, rfl⟩
abbrev main_cst_5 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_6 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_7 : Ref sig .tc := ⟨.hbm, 118, rfl⟩
abbrev main_v68 : Ref sig .tc := ⟨.hbm, 119, rfl⟩
abbrev main_call4_v0 : Ref sig .tc := ⟨.hbm, 120, rfl⟩
abbrev main_call4_c : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_c_0 : Ref sig .tc := ⟨.hbm, 126, rfl⟩
abbrev main_call4_v5 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_cst_8 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_call6_v0 : Ref sig .tc := ⟨.hbm, 150, rfl⟩
abbrev main_call6_v1 : Ref sig .tc := ⟨.hbm, 151, rfl⟩
abbrev main_call6_cst : Ref sig .tc := ⟨.hbm, 152, rfl⟩
abbrev main_call6_v2 : Ref sig .tc := ⟨.hbm, 153, rfl⟩
abbrev main_call6_v3 : Ref sig .tc := ⟨.hbm, 154, rfl⟩
abbrev main_call6_cst_0 : Ref sig .tc := ⟨.hbm, 155, rfl⟩
abbrev main_call6_v4 : Ref sig .tc := ⟨.hbm, 156, rfl⟩
abbrev main_call6_v5 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_cst_9 : Ref sig .tc := ⟨.hbm, 162, rfl⟩
abbrev main_v91 : Ref sig .tc := ⟨.hbm, 163, rfl⟩
abbrev main_v92 : Ref sig .tc := ⟨.hbm, 164, rfl⟩
abbrev main_cst_10 : Ref sig .tc := ⟨.hbm, 165, rfl⟩
abbrev main_v93 : Ref sig .tc := ⟨.hbm, 166, rfl⟩
abbrev main_v94 : Ref sig .tc := ⟨.hbm, 167, rfl⟩
abbrev main_cst_11 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_call7_v0 : Ref sig .tc := ⟨.hbm, 179, rfl⟩
abbrev main_call7_v1 : Ref sig .tc := ⟨.hbm, 180, rfl⟩
abbrev main_call7_cst : Ref sig .tc := ⟨.hbm, 181, rfl⟩
abbrev main_call7_v2 : Ref sig .tc := ⟨.hbm, 182, rfl⟩
abbrev main_call7_v3 : Ref sig .tc := ⟨.hbm, 183, rfl⟩
abbrev main_call7_cst_0 : Ref sig .tc := ⟨.hbm, 184, rfl⟩
abbrev main_call7_v4 : Ref sig .tc := ⟨.hbm, 185, rfl⟩
abbrev main_call7_v5 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_cst_12 : Ref sig .tc := ⟨.hbm, 192, rfl⟩
abbrev main_v110 : Ref sig .tc := ⟨.hbm, 193, rfl⟩
abbrev main_v111 : Ref sig .tc := ⟨.hbm, 194, rfl⟩
abbrev main_cst_13 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_cst_14 : Ref sig .tc := ⟨.hbm, 204, rfl⟩
abbrev main_v120 : Ref sig .tc := ⟨.hbm, 205, rfl⟩
abbrev main_v121 : Ref sig .tc := ⟨.hbm, 206, rfl⟩
abbrev main_cst_15 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩

abbrev nD : Nat := 1
abbrev τ : Topo := Topo.v7x

variable {F : FTy → Type} [FloatOps F]
-- ==== Proof.Whole.lean ====
/- A buffer stored or loaded whole: the store leaves its payload, the load reads the contents. -/
module

public import Idealize.ShloMosaic.Lib.Pipeline.Value

@[expose] public section

namespace Cert.Whole

open Idealize.ShloMosaic

variable {Val : EltTy → Type} {sig : RefSig} {κ : Kind} {sp : Space} {S : Shape} {e : EltTy}

/-- The two-axis offsets the stores and loads are printed at are zero. -/
theorem zero₂ : (![0, 0] : Fin 2 → Nat) = fun _ => 0 := by
  funext a; fin_cases a <;> rfl

/-- After one store through the whole rectangle the buffer reads the payload. -/
theorem read_store [∀ e, Nonempty (Val e)] (v : View sig κ sp S e) {off : Fin S.rank → Nat} (h : off = fun _ => 0)
    (inb : ∀ a, off a + S.size a ≤ S.size a) (w : S.Idx → Val e) (f : v.ty.Contents Val) :
    v.read Val (v.writes Val f [⟨Rect.unit off S.size inb, w⟩]) = w :=
  (View.read_writes_eq_canon _ _ _ fun y => ⟨_, List.mem_singleton_self _, View.mem_set_unit_zero h inb y⟩).trans
    (View.canon_unit_zero h inb w)

/-- A load through the whole rectangle reads the contents. -/
theorem load (v : View sig κ sp S e) {off : Fin S.rank → Nat} (h : off = fun _ => 0)
    (inb : ∀ a, off a + S.size a ≤ S.size a) (f : v.ty.Contents Val) :
    v.readAt Val (Rect.unit off S.size inb).toLoadRect f = v.read Val f :=
  View.ld_unit_zero h inb (v.read Val f)

end Cert.Whole

end
-- ==== Proof.Kept.lean ====
/- An output block filled at the first of a run of grid points and left alone at the others: what its buffer holds at
   those others, and what they hand back. -/
module

public import Idealize.ShloMosaic.Lib.Pipeline.FrameBody
public import Idealize.ShloMosaic.Lib.Pipeline.Value

@[expose] public section

noncomputable section

namespace Cert.Kept

open Idealize.ShloMosaic Idealize.ShloMosaic.Pipeline
open Idealize.SL
open Idealize.SL.BI (sProp)
open scoped Idealize.SL.BI
open Idealize.SL.BI.BIBase Idealize.SL.BI.Laws Idealize.SL.Sem Idealize.SL.ProofMode
open Idealize.SL.RA
open TcCoe

variable {nD : ℕ} {τ : Topo} {sig : RefSig} {Val : EltTy → Type} {Λ₀ : Labels}
variable {U : Type} [URA U] {cfg : Cfg sig Λ₀} {c : Dev nD} (dat : Dat τ Val Unit ℕ U ℕ cfg c)

/-- The point before `t`. -/
def prev (t : Fin cfg.N) : Fin cfg.N := ⟨t.val - 1, Nat.lt_of_le_of_lt (Nat.sub_le _ _) t.isLt⟩

/-- With runs of `P` points, the first of each storing the block and the others at most keeping it, no write-back inside
    a run and what is left the same all along it: at a point that is not its run's first the buffer holds what is left. -/
theorem before_eq_after (w : Fin cfg.W) (P : ℕ) (hw : (cfg.win w).isOut = true)
    (hclip : ∀ (i : cfg.grid.Coords) a, (cfg.win w).clip i a = none)
    (hflush : ∀ t : Fin cfg.N, t.val % P ≠ 0 → (cfg.win w).flush (prev t) = false)
    (hlive : ∀ t : Fin cfg.N, t.val % P = 0 → cfg.idle w (cfg.grid.coords t) = false)
    (hafter : ∀ t : Fin cfg.N, t.val % P ≠ 0 → dat.after w t = dat.after w (prev t)) :
    ∀ (n : ℕ) (t : Fin cfg.N), t.val = n → t.val % P ≠ 0 → ∀ d, dat.before w t d = dat.after w t := by
  intro n
  induction n with
  | zero => intro t h0 ht; exact absurd (by rw [h0, Nat.zero_mod]) ht
  | succ n ih =>
    intro t hn ht d
    have hpos : t.val ≠ 0 := by omega
    rw [dat.before_of_pos w t hpos ((cfg.win w).fetch_out hw t) d, hafter t ht]
    have hf := hflush t ht
    unfold prev at hf ⊢
    rw [hf, if_neg Bool.false_ne_true]
    unfold Dat.left
    cases hi : cfg.idle w (cfg.grid.coords ⟨t.val - 1, Nat.lt_of_le_of_lt (Nat.sub_le _ _) t.isLt⟩) with
    | false => dsimp only; unfold Dat.kept; rw [Pipeline.fill_of_clip_none w _ (hclip _) d (dat.after w _), Window.fill_cut]
    | true =>
      refine ih _ (by show t.val - 1 = n; omega) (fun h => ?_) d
      rw [hlive _ h] at hi; exact Bool.false_ne_true hi

/-- At any point, the buffer at what is to be left is what the point is to hand back. -/
theorem leaves_of_after [∀ e, Nonempty (Val e)] (w : Fin cfg.W) (P : ℕ)
    (hlive : ∀ t : Fin cfg.N, t.val % P = 0 → cfg.idle w (cfg.grid.coords t) = false)
    (hbefore : ∀ t : Fin cfg.N, t.val % P ≠ 0 → ∀ d, dat.before w t d = dat.after w t) (t : Fin cfg.N) :
    (owns (c : Thread nD τ) ((cfg.win w).stage (cfg.slots t w)) fullShare (dat.after w t) : sProp (MT nD τ sig Unit Val ℕ U ℕ)) ⊢ dat.leavesExact w t := by
  unfold Dat.leavesExact
  cases hi : cfg.idle w (cfg.grid.coords t) with
  | false => dsimp only; exact .rfl
  | true =>
    cases hf : (cfg.win w).flush t with
    | true => dsimp only; exact .rfl
    | false =>
      dsimp only
      have ht : t.val % P ≠ 0 := fun h => by rw [hlive t h] at hi; exact Bool.false_ne_true hi
      rw [← hbefore t ht (fun _ => Classical.arbitrary _)]
      iintro H; iexists _; iexact H

end Cert.Kept

end
-- ==== Proof.InRun.lean ====
/- The sample projection's pipeline: what its body leaves in every buffer at every grid point, and the run of the whole
   program — its outputs named, its arguments unchanged, its counters at zero — at any float values. -/
module

public import proofs.«01_k».proof.Proof.Gen.KernelIdeal.Frame
public import proofs.«01_k».proof.Proof.Gen.KernelIdeal.Skeleton
public import proofs.«01_k».proof.Proof.Whole
public import proofs.«01_k».proof.Proof.Kept
public import Idealize.ShloMosaic.Lib.Claim
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One tile of the projection: the normalised rows against one block of weight rows. -/
def tile (x0 : Vec F S1024x2048 .f32) (x1 : Vec F S1x2048 .f32) (x2 : Vec F S1024x2048 .f32) : FVec F S1024x1024 .bf16 :=
  k0_pay6 x2 (k0_pay2 x0 x1)

/-- The side projection: the normalised rows against the 128 side rows of the weights. -/
abbrev side (x0 : Vec F S1024x2048 .f32) (x1 : Vec F S1x2048 .f32) (x3 : Vec F S128x2048 .f32) : FVec F S1024x128 .bf16 :=
  k0_pay4 x0 x1 x3

/-- The body's one condition holds at the first point only. -/
theorem first_iff : ∀ t : Fin cfg0.N, k0_cond1 (grid0.coords t) = 1#1 ↔ t.val % 10 = 0 :=
  (fun t => by
    have ht : t.val < 10 := Nat.lt_of_lt_of_eq t.isLt N_0
    have e0 : (grid0.coords t 0).val = t.val / 10 % 1 := Pipeline.Grid.coords_val t 0 (by decide) rfl
    have e1 : (grid0.coords t 1).val = t.val / 1 % 10 := Pipeline.Grid.coords_val t 1 (by decide) rfl
    simp only [k0_cond1, e0, e1]
    word_cmp
   : ∀ t : Fin grid0.N, k0_cond1 (grid0.coords t) = 1#1 ↔ t.val % 10 = 0)

/-- The body at the first point: it normalises the rows into the scratch, projects them on the side rows, and does the
    first tile. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S128x2048 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S1024x2048 .bf16) (harg8 : arg8.IsWhole) (arg9 : Memref sig .tc .vmem S128x2048 .bf16) (harg9 : arg9.IsWhole) (arg10 : Memref sig .tc .vmem S1024x2048 .bf16) (harg10 : arg10.IsWhole) (hc0 : k0_cond1 i = 1#1)
    (x0 : Vec F S1024x2048 .f32) (x1 : Vec F S1x2048 .f32) (x2 : Vec F S1024x2048 .f32) (x3 : Vec F S128x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (tile x0 x1 x2) ∗ owns (c : Thread nD τ) arg7 fullShare (side x0 x1 x3) ∗ owns (c : Thread nD τ) arg8 fullShare (k0_pay5 x2) ∗ owns (c : Thread nD τ) arg9 fullShare (k0_pay3 x3) ∗ owns (c : Thread nD τ) arg10 fullShare (k0_pay2 x0 x1)) -∗ K ⟨⟩))
      ⊢ wp frame (wpE (defs₀ (F := F)) Variants.none c none) E (cc0_inproj_f32w i arg2 harg2 arg3 harg3 arg4 harg4 arg5 harg5 arg6 harg6 arg7 harg7 arg8 harg8 arg9 harg9 arg10 harg10) K := by
  simp only [cc0_inproj_f32w_eq_skeleton]; unfold cc0_inproj_f32w_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro
    exact (Whole.read_store _ Whole.zero₂ _ _ _).trans (congrArg₂ k0_pay6 (Whole.load _ Whole.zero₂ _ _) ((View.readCov_unit_zero _ Whole.zero₂ _ _).trans (congrArg₂ k0_pay2 (Whole.load _ Whole.zero₂ _ _) (Whole.load _ Whole.zero₂ _ _))))
  isplitl [H5]
  · iexists _; isplitr; swap; · iexact H5
    ipureintro
    exact (Whole.read_store _ Whole.zero₂ _ _ _).trans (by rw [Whole.load _ Whole.zero₂ _ _, Whole.load _ Whole.zero₂ _ _, Whole.load _ Whole.zero₂ _ _])
  isplitl [H6]
  · iexists _; isplitr; swap; · iexact H6
    ipureintro
    exact (Whole.read_store _ Whole.zero₂ _ _ _).trans (congrArg k0_pay5 (Whole.load _ Whole.zero₂ _ _))
  isplitl [H7]
  · iexists _; isplitr; swap; · iexact H7
    ipureintro
    exact (Whole.read_store _ Whole.zero₂ _ _ _).trans (congrArg k0_pay3 (Whole.load _ Whole.zero₂ _ _))
  iexists _; isplitr; swap; · iexact HS0
  ipureintro
  exact (Whole.read_store _ Whole.zero₂ _ _ _).trans (congrArg₂ k0_pay2 (Whole.load _ Whole.zero₂ _ _) (Whole.load _ Whole.zero₂ _ _))

/-- The body at a later point: one tile, from the rows the scratch keeps. -/
theorem body_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S128x2048 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S1024x2048 .bf16) (harg8 : arg8.IsWhole) (arg9 : Memref sig .tc .vmem S128x2048 .bf16) (harg9 : arg9.IsWhole) (arg10 : Memref sig .tc .vmem S1024x2048 .bf16) (harg10 : arg10.IsWhole) (hc0 : ¬ k0_cond1 i = 1#1)
    (x0 : Vec F S1024x2048 .f32) (x1 : Vec F S1x2048 .f32) (x2 : Vec F S1024x2048 .f32)
    (E : Set ℕ) (K : PUnit → sProp 𝕄) :
    iprop(owns (c : Thread nD τ) arg4 fullShare x2 ∗ (∃ d, owns (c : Thread nD τ) arg6 fullShare d) ∗ (∃ d, owns (c : Thread nD τ) arg8 fullShare d) ∗ owns (c : Thread nD τ) arg10 fullShare (k0_pay2 x0 x1)
        ∗ (iprop(owns (c : Thread nD τ) arg4 fullShare x2 ∗ owns (c : Thread nD τ) arg6 fullShare (tile x0 x1 x2) ∗ owns (c : Thread nD τ) arg8 fullShare (k0_pay5 x2) ∗ owns (c : Thread nD τ) arg10 fullShare (k0_pay2 x0 x1)) -∗ K ⟨⟩))
      ⊢ wp frame (wpE (defs₀ (F := F)) Variants.none c none) E (cc0_inproj_f32w i arg2 harg2 arg3 harg3 arg4 harg4 arg5 harg5 arg6 harg6 arg7 harg7 arg8 harg8 arg9 harg9 arg10 harg10) K := by
  simp only [cc0_inproj_f32w_eq_skeleton]; unfold cc0_inproj_f32w_skel
  unfold owns
  iintro ⟨⟨%f2, %hf2, H2⟩, ⟨%d4, %f4, -, H4⟩, ⟨%d6, %f6, -, H6⟩, ⟨%fs0, %hs0, HS0⟩, Hk⟩
  subst hf2
  sl_exec (disch := first | sl_exact hc0)
  sl_step
  iapply Hk
  isplitl [H2]
  · iexists f2; isplitr; · ipureintro; rfl
    iexact H2
  isplitl [H4]
  · iexists _; isplitr; swap; · iexact H4
    ipureintro
    exact (Whole.read_store _ Whole.zero₂ _ _ _).trans (congrArg₂ k0_pay6 (Whole.load _ Whole.zero₂ _ _) ((Whole.load _ Whole.zero₂ _ _).trans hs0))
  isplitl [H6]
  · iexists _; isplitr; swap; · iexact H6
    ipureintro
    exact (Whole.read_store _ Whole.zero₂ _ _ _).trans (congrArg k0_pay5 (Whole.load _ Whole.zero₂ _ _))
  iexists fs0; isplitr; · ipureintro; exact hs0
  iexact HS0

/-! ## What the run leaves at every point -/

variable (m : (ℓ : Loc nD τ sig) → Buf (Elt F) ℓ) (ρ : Dev nD → PrngReg)

/-- The normalisation's two operands and the side rows, as the first point finds them. -/
abbrev rows (c : Dev nD) : Vec F S1024x2048 .f32 := iblk m c 0 t0_0
abbrev gain (c : Dev nD) : Vec F S1x2048 .f32 := iblk m c 1 t0_0
abbrev sideRows (c : Dev nD) : Vec F S128x2048 .f32 := X0_3 m c t0_0

/-- The normalised rows, kept in the scratch from the first point on. -/
def normed (c : Dev nD) : Vec F S1024x2048 .bf16 := k0_pay2 (rows m c) (gain m c)

/-- The scratch between points: before the first, anything; afterwards, the normalised rows. -/
def carried (c : Dev nD) (n : ℕ) : sProp 𝕄 :=
  if n = 0 then Pipeline.ΦA spec0 c
  else iprop(owns (c : Thread nD τ) (Memref.whole cc0_scratch0) fullShare (normed m c) ∗ (∃ r, prngReg c r))

/-- What each buffer holds after the body, and the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => tile (rows m c) (gain m c) (iblk m c 2 t)
    | ⟨5, _⟩ => side (rows m c) (gain m c) (sideRows m c)
    | ⟨6, _⟩ => k0_pay5 (iblk m c 2 t)
    | ⟨7, _⟩ => k0_pay3 (sideRows m c)
  Φ t := carried m c t.val
  q w := Pipeline.shareOf spec0 w
  owed _ := 0

/-- The arrays are those the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = tile (rows m c) (gain m c) (iblk m c 2 t) := by dsimp only [dats]
theorem after_5 (c : Dev nD) (t : Fin cfg0.N) : (dats m 0 c).after 5 t = side (rows m c) (gain m c) (sideRows m c) := by dsimp only [dats]
theorem after_6 (c : Dev nD) (t : Fin cfg0.N) : (dats m 0 c).after 6 t = k0_pay5 (iblk m c 2 t) := by dsimp only [dats]
theorem after_7 (c : Dev nD) (t : Fin cfg0.N) : (dats m 0 c).after 7 t = k0_pay3 (sideRows m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d

/-- The two side outputs are stored at the first point. -/
theorem live_5 (t : Fin cfg0.N) (h : t.val % 10 = 0) : cfg0.idle 5 (cfg0.grid.coords t) = false := by
  show (!(k0_cond1 (grid0.coords t) == 1#1)) = false
  rw [(first_iff t).mpr h]; rfl
theorem live_7 (t : Fin cfg0.N) (h : t.val % 10 = 0) : cfg0.idle 7 (cfg0.grid.coords t) = false := by
  show (!(k0_cond1 (grid0.coords t) == 1#1)) = false
  rw [(first_iff t).mpr h]; rfl

/-- They are written back at the last point only, so not just before a later point. -/
theorem unflushed_5 (t : Fin cfg0.N) (h : t.val % 10 ≠ 0) : (cfg0.win 5).flush (Kept.prev t) = false :=
  Bool.eq_false_iff.mpr fun e => by
    have := (flush0_5 _).mp e
    have hN : t.val < 10 := lt_of_lt_of_eq t.isLt (show cfg0.N = 10 from N_0)
    unfold Kept.prev at this; dsimp only at this; omega
theorem unflushed_7 (t : Fin cfg0.N) (h : t.val % 10 ≠ 0) : (cfg0.win 7).flush (Kept.prev t) = false :=
  Bool.eq_false_iff.mpr fun e => by
    have := (flush0_7 _).mp e
    have hN : t.val < 10 := lt_of_lt_of_eq t.isLt (show cfg0.N = 10 from N_0)
    unfold Kept.prev at this; dsimp only at this; omega

/-- So at a later point each side output's buffer holds the first point's result, -/
theorem before_5 (c : Dev nD) (t : Fin cfg0.N) (h : t.val % 10 ≠ 0) (d) : (dats m 0 c).before 5 t d = (dats m 0 c).after 5 t :=
  Kept.before_eq_after (dats m 0 c) 5 10 rfl (fun _ _ => rfl) unflushed_5 live_5 (fun _ _ => by rw [after_5, after_5]) t.val t rfl h d
theorem before_7 (c : Dev nD) (t : Fin cfg0.N) (h : t.val % 10 ≠ 0) (d) : (dats m 0 c).before 7 t d = (dats m 0 c).after 7 t :=
  Kept.before_eq_after (dats m 0 c) 7 10 rfl (fun _ _ => rfl) unflushed_7 live_7 (fun _ _ => by rw [after_7, after_7]) t.val t rfl h d

/-- and that is what every point hands back. -/
theorem leaves_5 (c : Dev nD) (t : Fin cfg0.N) :
    (owns (c : Thread nD τ) (win0_5.stage (cfg0.slots t 5)) fullShare ((dats m 0 c).after 5 t) : sProp 𝕄) ⊢ (dats m 0 c).leavesExact 5 t :=
  Kept.leaves_of_after (dats m 0 c) 5 10 live_5 (before_5 m c) t
theorem leaves_7 (c : Dev nD) (t : Fin cfg0.N) :
    (owns (c : Thread nD τ) (win0_7.stage (cfg0.slots t 7)) fullShare ((dats m 0 c).after 7 t) : sProp 𝕄) ⊢ (dats m 0 c).leavesExact 7 t :=
  Kept.leaves_of_after (dats m 0 c) 7 10 live_7 (before_7 m c) t

/-- The scratch as the program declares it, at some contents, beside the generator's register. -/
theorem scratch_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body takes the one to the other: at the first point by `body_first`, at a later one by `body_later`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = iprop(owns (c : Thread nD τ) (Memref.whole cc0_scratch0) fullShare (normed m c) ∗ (∃ r, prngReg c r)) from
    (show carried m c (t.val + 1) = _ from if_neg (Nat.succ_ne_zero _))]
  have hN : t.val < 10 := lt_of_lt_of_eq t.isLt (show cfg0.N = 10 from N_0)
  rw [show (dats m 0 c).leavesExact 0 t = owns (c : Thread nD τ) (win0_0.stage (cfg0.slots t 0)) fullShare ((dats m 0 c).after 0 t) from rfl,
    after_0]
  rw [show (dats m 0 c).leavesExact 1 t = owns (c : Thread nD τ) (win0_1.stage (cfg0.slots t 1)) fullShare ((dats m 0 c).after 1 t) from rfl,
    after_1]
  rw [show (dats m 0 c).leavesExact 2 t = owns (c : Thread nD τ) (win0_2.stage (cfg0.slots t 2)) fullShare ((dats m 0 c).after 2 t) from rfl,
    after_2]
  rw [show (dats m 0 c).leavesExact 3 t = owns (c : Thread nD τ) (win0_3.stage (cfg0.slots t 3)) fullShare ((dats m 0 c).after 3 t) from rfl,
    after_3]
  rw [show (dats m 0 c).leavesExact 4 t = owns (c : Thread nD τ) (win0_4.stage (cfg0.slots t 4)) fullShare ((dats m 0 c).after 4 t) from rfl,
    after_4]
  rw [show (dats m 0 c).leavesExact 6 t = owns (c : Thread nD τ) (win0_6.stage (cfg0.slots t 6)) fullShare ((dats m 0 c).after 6 t) from rfl,
    after_6]
  by_cases h0 : t.val % 10 = 0
  · have ht : t = t0_0 := Fin.ext (show t.val = 0 by omega)
    subst ht
    rw [show (dats m 0 c).Φ (Fin.castSucc t0_0) = Pipeline.ΦA spec0 c from (show carried m c 0 = _ from if_pos rfl), scratch_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t0_0) _ _ _ _ _ _ _ _ _ _ _ _ _ _ _ _ _ _ ((first_iff t0_0).mpr h0) (rows m c) (gain m c) (iblk m c 2 t0_0) (sideRows m c) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_5 m c t0_0); rw [after_5]; iexact H5
    isplitl [H6]; · iexact H6
    iapply (leaves_7 m c t0_0); rw [after_7]; iexact H7
  · have ht0 : t.val ≠ 0 := fun h => h0 (by rw [h])
    rw [show (dats m 0 c).Φ t.castSucc = iprop(owns (c : Thread nD τ) (Memref.whole cc0_scratch0) fullShare (normed m c) ∗ (∃ r, prngReg c r)) from
      (show carried m c t.val = _ from if_neg ht0)]
    simp only [before_5 m c t h0, before_7 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ (hstage0_0 ((cfg0.slots t 0).cast nbuf0_0)) _ (hstage0_1 ((cfg0.slots t 1).cast nbuf0_1)) _ _ _ (hstage0_3 ((cfg0.slots t 3).cast nbuf0_3)) _ _ _ (hstage0_5 ((cfg0.slots t 5).cast nbuf0_5)) _ _ _ (hstage0_7 ((cfg0.slots t 7).cast nbuf0_7)) _ _ (fun h => h0 ((first_iff t).mp h)) (rows m c) (gain m c) (iblk m c 2 t) Set.univ _)
    isplitl [H2]; · iexact H2
    isplitl [H4]; · iexists _; iexact H4
    isplitl [H6]; · iexists _; iexact H6
    isplitl [HS0]; · iexact HS0
    iintro ⟨H2, H4, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_5 m c t); iexact H5
    isplitl [H6]; · iexact H6
    iapply (leaves_7 m c t); iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every array of the pipeline ends as the data say, every other buffer as the region found it, every counter
    at zero. -/
theorem run : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => (show Pipeline.ΦA spec0 c ⊢ carried m c 0 from by unfold carried; rw [if_pos rfl]))
    (hout := fun c => (show carried m c 10 ⊢ Pipeline.ΦA spec0 c from by
      unfold carried; rw [if_neg (by decide), scratch_eq]
      iintro ⟨HS, Hg⟩
      isplitl [HS]
      · iexists _; iexact HS
      iexact Hg))

/-- The program ends with its arguments as launched and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Gen

end
-- ==== Proof.InAlgebra.lean ====
/- The sample projection, block by block, read at an index: the kernel's tiles and the reference's arrays are the same sums. -/
module

public import proofs.«01_k».proof.Proof.InRun
public import proofs.«01_k».proof.Proof.Gen.ReferenceIdeal.Read
public import Idealize.ShloMosaic.Lib.Pointwise

@[expose] public section

set_option maxRecDepth 16384

noncomputable section

namespace Cert.Sample

open Idealize.ShloMosaic Idealize.ShloMosaic.TcCoe
open Cert.KernelIdeal Cert.KernelIdeal.Gen Cert.ReferenceIdeal.Read

/-- Row `r` of an array of 2048 columns, divided by its root mean square and scaled, at column `k`. -/
def normAt {R : ℕ} (x : (⟨2, ![R, 2048]⟩ : Shape).Idx → EReal) (g : (⟨2, ![1, 2048]⟩ : Shape).Idx → EReal) (r : Fin R) (k : Fin 2048) : EReal :=
  x (ix2 r k) * Ideal.rsqrt (Ideal.div (∑ i, x (ix2 r i) * x (ix2 r i)) (Ideal.ofBits FTy.f32 1157627904#32) + Ideal.ofBits FTy.f32 897988541#32) * g (ix2 0 k)

/-- The kernel's normalised rows, -/
theorem norm_kernel (x0 : Vec Ideal S1024x2048 .f32) (x1 : Vec Ideal S1x2048 .f32) (r : Fin 1024) (k : Fin 2048) :
    k0_pay1 x0 x1 (ix2 r k) = normAt x0 x1 r k := by
  pointwise [k0_pay1]; rfl

/-- and the reference's. -/
theorem norm_reference (x0 : FVec Ideal S128x8x2048 .f32) (x1 : FVec Ideal S1x2048 .f32) (r : Fin 1024) (k : Fin 2048) :
    val_main_v14 (F := Ideal) x0 x1 (ix2 r k) = normAt (val_main_v0 (F := Ideal) x0) x1 r k := by
  pointwise [val_main_v14, val_main_v13, val_main_v12, val_main_v11, val_main_v10, val_main_v9, val_main_v8, val_main_v7, val_main_v6,
    val_main_v5, val_main_v4, val_main_v3, val_main_v2, val_main_v1, val_main_cst, val_main_cst_0, val_main_cst_1]
  rfl

/-- A tile at an index: one normalised row against one row of the block of weights. -/
theorem tile_apply (x0 : Vec Ideal S1024x2048 .f32) (x1 : Vec Ideal S1x2048 .f32) (x2 : Vec Ideal S1024x2048 .f32) (r l : Fin 1024) :
    tile x0 x1 x2 (ix2 r l) = ∑ k, normAt x0 x1 r k * x2 (ix2 l k) := by
  pointwise [tile, k0_pay6, k0_pay5, k0_pay2]
  simp only [norm_kernel]

/-- The side projection at an index. -/
theorem side_apply (x0 : Vec Ideal S1024x2048 .f32) (x1 : Vec Ideal S1x2048 .f32) (x3 : Vec Ideal S128x2048 .f32) (r : Fin 1024) (l : Fin 128) :
    side x0 x1 x3 (ix2 r l) = ∑ k, normAt x0 x1 r k * x3 (ix2 l k) := by
  pointwise [k0_pay4, k0_pay3]
  simp only [norm_kernel]

/-- The copied weight rows at an index: over the extended reals, themselves. -/
theorem copy_apply (x2 : Vec Ideal S1024x2048 .f32) (l : Fin 1024) (k : Fin 2048) : k0_pay5 x2 (ix2 l k) = x2 (ix2 l k) := by
  pointwise [k0_pay5]
theorem sideCopy_apply (x3 : Vec Ideal S128x2048 .f32) (l : Fin 128) (k : Fin 2048) : k0_pay3 x3 (ix2 l k) = x3 (ix2 l k) := by
  pointwise [k0_pay3]

/-- The weight column that column `n` of the joined projection comes from: the 16 columns from 6144 on are left out. -/
def col (n : Fin 10240) : Fin 10256 := ⟨if n.val < 6144 then n.val else n.val + 16, by split <;> omega⟩

/-- The reference's joined projection at an index, -/
theorem main_reference (x0 : FVec Ideal S128x8x2048 .f32) (x1 : FVec Ideal S1x2048 .f32) (x2 : FVec Ideal S1x2048x10256 .f32) (r : Fin 1024) (n : Fin 10240) :
    val_main_v25 (F := Ideal) x0 x1 x2 (ix2 r n) = ∑ k, normAt (val_main_v0 (F := Ideal) x0) x1 r k * x2 (ix3 0 k (col n)) := by
  pointwise [val_main_v25, val_main_v19, val_main_v17, val_main_v18, val_main_v16, val_main_v15]
  simp only [norm_reference]
  have hc : (col n).val = if n.val < 6144 then n.val else n.val + 16 := rfl
  split
  · next h => exact Finset.sum_congr rfl fun k _ => congrArg (fun z => _ * x2 (ix3 0 k z)) (Fin.ext (by rw [hc, if_pos h]))
  · next h => exact Finset.sum_congr rfl fun k _ => congrArg (fun z => _ * x2 (ix3 0 k z)) (Fin.ext (by rw [hc, if_neg h]; dsimp only; omega))

/-- its side projection, -/
theorem side_reference (x0 : FVec Ideal S128x8x2048 .f32) (x1 : FVec Ideal S1x2048 .f32) (x2 : FVec Ideal S1x2048x10256 .f32) (r : Fin 1024) (l : Fin 128) :
    val_main_v27 (F := Ideal) x0 x1 x2 (ix2 r l) = ∑ k, normAt (val_main_v0 (F := Ideal) x0) x1 r k * x2 (ix3 0 k ⟨6144 + l.val, by omega⟩) := by
  pointwise [val_main_v27, val_main_v26, val_main_v16, val_main_v15]
  simp only [norm_reference]

/-- its weight rows, -/
theorem weights_reference (x2 : FVec Ideal S1x2048x10256 .f32) (n : Fin 10240) (k : Fin 2048) :
    val_main_v28 (F := Ideal) x2 (ix2 n k) = x2 (ix3 0 k (col n)) := by
  pointwise [val_main_v28, val_main_v24, val_main_v22, val_main_v23, val_main_v21, val_main_v20]
  have hc : (col n).val = if n.val < 6144 then n.val else n.val + 16 := rfl
  split
  · next h => exact congrArg (fun z => x2 (ix3 0 k z)) (Fin.ext (by rw [hc, if_pos h]))
  · next h => exact congrArg (fun z => x2 (ix3 0 k z)) (Fin.ext (by rw [hc, if_neg h]; dsimp only; omega))

/-- and its side rows. -/
theorem sideWeights_reference (x2 : FVec Ideal S1x2048x10256 .f32) (l : Fin 128) (k : Fin 2048) :
    val_main_v30 (F := Ideal) x2 (ix2 l k) = x2 (ix3 0 k ⟨6144 + l.val, by omega⟩) := by
  pointwise [val_main_v30, val_main_v29, val_main_v21, val_main_v20]

end Cert.Sample

end
-- ==== Proof.InValue.lean ====
/- What the four result arrays of the sample projection hold after the run. -/
module

public import proofs.«01_k».proof.Proof.InAlgebra
public import Idealize.ShloMosaic.Lib.Pipeline.ValueKit
public import Idealize.ShloMosaic.Lib.StableHlo.ReadAt

@[expose] public section

set_option maxRecDepth 16384

noncomputable section

namespace Cert.Sample

open Idealize.ShloMosaic Idealize.ShloMosaic.TcCoe Idealize.SL.Sem
open Cert.KernelIdeal Cert.KernelIdeal.Gen Cert.ReferenceIdeal.Read
open Idealize.ShloMosaic.Pipeline (Dat Cfg Window)

variable (m : (ℓ : Loc nD τ sig) → Buf (Elt Ideal) ℓ) (c : Dev nD)

/-- The three arguments. -/
abbrev argX : FVec Ideal S128x8x2048 .f32 := m ((c : Thread nD τ).loc main_arg0)
abbrev argG : FVec Ideal S1x2048 .f32 := m ((c : Thread nD τ).loc main_arg1)
abbrev argW : FVec Ideal S1x2048x10256 .f32 := m ((c : Thread nD τ).loc main_arg2)

/-! ## The arrays the region finds -/

/-- The rows, flattened; -/
theorem V_rows : V m c main_v0 = val_main_v0 (F := Ideal) (argX m c) := by
  unfold V; after_results_simp; rfl
/-- the scale, as a row; -/
theorem V_gain (k : Fin 2048) : V m c main_v2 (ix2 0 k) = argG m c (ix2 0 k) := by
  unfold V; after_reads_at
/-- the weights, transposed. -/
theorem V_weights (n : Fin 10256) (k : Fin 2048) : V m c main_v4 (ix2 n k) = argW m c (ix3 0 k n) := by
  unfold V; after_reads_at

/-! ## The input blocks -/

/-- The window over the weights starts at row `1024 t`, and 16 rows further from the seventh point on. -/
theorem window_start : ∀ t : Fin grid0.N, win0_2.index t = ![t.val * 1024 + (if t.val < 6 then 0 else 16), 0] := by decide +kernel

theorem rows_eq : rows m c = val_main_v0 (F := Ideal) (argX m c) := by
  rw [← V_rows]
  funext y
  show V m c main_v0 ((win0_0.rect t0_0).emb y) = V m c main_v0 y
  congr 1; funext a; apply Fin.ext
  rw [Window.rect_emb_val_of_index_zero]
  revert a; decide +kernel
theorem gain_apply (k : Fin 2048) : gain m c (ix2 0 k) = argG m c (ix2 0 k) := by
  rw [← V_gain]
  show V m c main_v2 ((win0_1.rect t0_0).emb (ix2 0 k)) = V m c main_v2 (ix2 0 k)
  congr 1; funext a; apply Fin.ext
  rw [Window.rect_emb_val_of_index_zero]
  revert a; decide +kernel

theorem block_apply (t : Fin cfg0.N) (l : Fin 1024) (k : Fin 2048) (n : Fin 10240) (hn : n.val = t.val * 1024 + l.val) :
    iblk m c 2 t (ix2 l k) = argW m c (ix3 0 k (col n)) := by
  rw [← V_weights]
  show V m c main_v4 ((win0_2.rect t).emb (ix2 l k)) = _
  congr 1; funext a; apply Fin.ext
  rw [Window.rect_emb_val_off, window_start]
  have hl := l.isLt
  have hc : (col n).val = if n.val < 6144 then n.val else n.val + 16 := rfl
  fin_cases a
  · show t.val * 1024 + (if t.val < 6 then 0 else 16) + l.val = (col n).val
    rw [hc]; split <;> split <;> omega
  · show 0 + k.val = k.val
    omega

theorem sideRows_apply (l : Fin 128) (k : Fin 2048) : sideRows m c (ix2 l k) = argW m c (ix3 0 k ⟨6144 + l.val, by omega⟩) := by
  rw [← V_weights]
  show X0_3 m c t0_0 (ix2 l k) = _
  unfold X0_3 Window.fill
  rw [dif_pos (moved0_3 _ _)]
  show V m c main_v4 ((win0_3.rect t0_0).emb _) = _
  congr 1; funext a; apply Fin.ext
  rw [Window.rect_emb_val_off]
  fin_cases a
  · rfl
  · show 0 + k.val = k.val
    omega

/-- So the normalised rows are the reference's. -/
theorem norm_eq (r : Fin 1024) (k : Fin 2048) :
    normAt (rows m c) (gain m c) r k = normAt (val_main_v0 (F := Ideal) (argX m c)) (argG m c) r k := by
  unfold normAt; rw [rows_eq, gain_apply]

/-! ## The result arrays -/

/-- Point `t` writes columns `1024 t` to `1024 t + 1023` of the projection, -/
theorem main_index : ∀ t : Fin grid0.N, win0_4.index t = ![0, t.val] := by decide +kernel
/-- and the same rows of the copied weights. -/
theorem copy_index : ∀ t : Fin grid0.N, win0_6.index t = ![t.val, 0] := by decide +kernel

theorem final_main : (dats m 0 c).arrAt 4 cfg0.N = val_main_v25 (F := Ideal) (argX m c) (argG m c) (argW m c) := by
  refine (dats m 0 c).arrAt_eq_of_covers 4 _ (by decide +kernel) fun t _ y => ?_
  blk_simp
  rw [after_4]
  obtain ⟨r, l, rfl⟩ : ∃ (r : Fin 1024) (l : Fin 1024), y = ix2 r l := ⟨y 0, y 1, eq_ix2 y⟩
  have ht : t.val < 10 := lt_of_lt_of_eq t.isLt N_0
  have hl := l.isLt
  have e : (win0_4.blk t).view.emb (ix2 r l) = (ix2 r ⟨t.val * 1024 + l.val, by omega⟩ : S1024x10240.Idx) := by
    show (win0_4.rect t).emb (ix2 r l) = _
    funext a; apply Fin.ext
    rw [Window.rect_emb_val_off, main_index]
    fin_cases a
    · show 0 * 1024 + r.val = r.val
      omega
    · rfl
  rw [e]
  refine (tile_apply _ _ _ r l).trans (Eq.trans ?_ (main_reference _ _ _ r _).symm)
  exact Finset.sum_congr rfl fun k _ => by rw [norm_eq, block_apply m c t l k ⟨t.val * 1024 + l.val, by omega⟩ rfl]

theorem final_side : (dats m 0 c).arrAt 5 cfg0.N = val_main_v27 (F := Ideal) (argX m c) (argG m c) (argW m c) := by
  refine (dats m 0 c).arrAt_eq_of_after_last 5 t0_9 (by decide +kernel) _ fun y => ?_
  blk_simp
  rw [after_5]
  obtain ⟨r, l, rfl⟩ : ∃ (r : Fin 1024) (l : Fin 128), y = ix2 r l := ⟨y 0, y 1, eq_ix2 y⟩
  refine (side_apply _ _ _ r l).trans (Eq.trans ?_ (side_reference _ _ _ r _).symm)
  exact Finset.sum_congr rfl fun k _ => by rw [norm_eq, sideRows_apply]

theorem final_copy : (dats m 0 c).arrAt 6 cfg0.N = val_main_v28 (F := Ideal) (argW m c) := by
  refine (dats m 0 c).arrAt_eq_of_covers 6 _ (by decide +kernel) fun t _ y => ?_
  blk_simp
  rw [after_6]
  obtain ⟨l, k, rfl⟩ : ∃ (l : Fin 1024) (k : Fin 2048), y = ix2 l k := ⟨y 0, y 1, eq_ix2 y⟩
  have ht : t.val < 10 := lt_of_lt_of_eq t.isLt N_0
  have hl := l.isLt
  have e : (win0_6.blk t).view.emb (ix2 l k) = (ix2 ⟨t.val * 1024 + l.val, by omega⟩ k : S10240x2048.Idx) := by
    show (win0_6.rect t).emb (ix2 l k) = _
    funext a; apply Fin.ext
    rw [Window.rect_emb_val_off, copy_index]
    fin_cases a
    · rfl
    · show 0 * 2048 + k.val = k.val
      omega
  rw [e]
  exact (copy_apply _ l k).trans ((block_apply m c t l k _ rfl).trans (weights_reference _ _ k).symm)

theorem final_sideCopy : (dats m 0 c).arrAt 7 cfg0.N = val_main_v30 (F := Ideal) (argW m c) := by
  refine (dats m 0 c).arrAt_eq_of_after_last 7 t0_9 (by decide +kernel) _ fun y => ?_
  blk_simp
  rw [after_7]
  obtain ⟨l, k, rfl⟩ : ∃ (l : Fin 128) (k : Fin 2048), y = ix2 l k := ⟨y 0, y 1, eq_ix2 y⟩
  exact (sideCopy_apply _ l k).trans ((sideRows_apply m c l k).trans (sideWeights_reference _ l k).symm)

/-- The whole run, read: the four results are the reference's, the arguments are unchanged. -/
theorem values (ρ : Dev nD → PrngReg) : θ_run defs (onTc (τ := τ) (main (F := Ideal))) ⟨m, fun _ => 0, ρ⟩ (fun r => ∀ c : Dev nD,
      r.2.mem ((c.tc : Thread nD τ).loc main_v5_0) = val_main_v25 (F := Ideal) (argX m c) (argG m c) (argW m c)
      ∧ r.2.mem ((c.tc : Thread nD τ).loc main_v5_1) = val_main_v27 (F := Ideal) (argX m c) (argG m c) (argW m c)
      ∧ r.2.mem ((c.tc : Thread nD τ).loc main_v5_2) = val_main_v28 (F := Ideal) (argW m c)
      ∧ r.2.mem ((c.tc : Thread nD τ).loc main_v5_3) = val_main_v30 (F := Ideal) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h.1.1 c).1 4).trans (final_main m c)), (((h.1.1 c).1 5).trans (final_side m c)),
      (((h.1.1 c).1 6).trans (final_copy m c)), (((h.1.1 c).1 7).trans (final_sideCopy m c)), h.2.1 c⟩)
    (θ_run_and (run m ρ) (Gen.frame m ρ))

end Cert.Sample

end
-- ==== Proof.InFrame.lean ====
/- The sample projection's two programs have one text: the frame at bit patterns is the run at any floats, taken there. -/
module

public import proofs.«01_k».proof.Defs
public import proofs.«01_k».proof.Proof.Gen.Kernel
public import proofs.«01_k».proof.Proof.InRun

@[expose] public section

noncomputable section

namespace Cert.Sample

open Idealize.ShloMosaic Idealize.SL.Sem

/-- The two programs call one body, -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
/-- over one pipeline. -/
theorem defs_same : Cert.Kernel.defs (F := Bits) = Cert.KernelIdeal.defs (F := Bits) :=
  congrArg (Pipeline.defs Cert.KernelIdeal.pcfgs) bodies_same

/-- The program at bit patterns ends with its arguments as launched and its counters at zero. -/
theorem frame_kernel : Cert.quiescent_Kernel (hKernel := Cert.Kernel.Gen.facts) := fun m ρ _ => by
  rw [defs_same]
  exact Cert.KernelIdeal.Gen.frame (F := Bits) m ρ

end Cert.Sample

end
-- ==== Proof.OutBlock.lean ====
/- The output projection's block: what one grid point computes, and what the masked stores of it leave. -/
module

public import proofs.«01_k».proof.Proof.Gen.Kernel2Ideal.Frame
public import proofs.«01_k».proof.Proof.Gen.Kernel2Ideal.Skeleton
public import proofs.«01_k».proof.Proof.Whole
public import Idealize.ShloMosaic.Lib.Pipeline.Value

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The block computed at a point -/

/-- The eight column blocks of a weight matrix with 2048 rows, -/
abbrev col0 (w : Vec F S2048x2048 .bf16) : Vec F S2048x256 .bf16 := View.ld w (Rect.unit (s := S2048x2048) ![0, 0] S2048x256.size inb_S2048x2048_S2048x256_0_0)
abbrev col1 (w : Vec F S2048x2048 .bf16) : Vec F S2048x256 .bf16 := View.ld w (Rect.unit (s := S2048x2048) ![0, 256] S2048x256.size inb_S2048x2048_S2048x256_0_256)
abbrev col2 (w : Vec F S2048x2048 .bf16) : Vec F S2048x256 .bf16 := View.ld w (Rect.unit (s := S2048x2048) ![0, 512] S2048x256.size inb_S2048x2048_S2048x256_0_512)
abbrev col3 (w : Vec F S2048x2048 .bf16) : Vec F S2048x256 .bf16 := View.ld w (Rect.unit (s := S2048x2048) ![0, 768] S2048x256.size inb_S2048x2048_S2048x256_0_768)
abbrev col4 (w : Vec F S2048x2048 .bf16) : Vec F S2048x256 .bf16 := View.ld w (Rect.unit (s := S2048x2048) ![0, 1024] S2048x256.size inb_S2048x2048_S2048x256_0_1024)
abbrev col5 (w : Vec F S2048x2048 .bf16) : Vec F S2048x256 .bf16 := View.ld w (Rect.unit (s := S2048x2048) ![0, 1280] S2048x256.size inb_S2048x2048_S2048x256_0_1280)
abbrev col6 (w : Vec F S2048x2048 .bf16) : Vec F S2048x256 .bf16 := View.ld w (Rect.unit (s := S2048x2048) ![0, 1536] S2048x256.size inb_S2048x2048_S2048x256_0_1536)
abbrev col7 (w : Vec F S2048x2048 .bf16) : Vec F S2048x256 .bf16 := View.ld w (Rect.unit (s := S2048x2048) ![0, 1792] S2048x256.size inb_S2048x2048_S2048x256_0_1792)
/-- and of one with 256. -/
abbrev ecol0 (w : Vec F S256x2048 .bf16) : Vec F S256x256 .bf16 := View.ld w (Rect.unit (s := S256x2048) ![0, 0] S256x256.size inb_S256x2048_S256x256_0_0)
abbrev ecol1 (w : Vec F S256x2048 .bf16) : Vec F S256x256 .bf16 := View.ld w (Rect.unit (s := S256x2048) ![0, 256] S256x256.size inb_S256x2048_S256x256_0_256)
abbrev ecol2 (w : Vec F S256x2048 .bf16) : Vec F S256x256 .bf16 := View.ld w (Rect.unit (s := S256x2048) ![0, 512] S256x256.size inb_S256x2048_S256x256_0_512)
abbrev ecol3 (w : Vec F S256x2048 .bf16) : Vec F S256x256 .bf16 := View.ld w (Rect.unit (s := S256x2048) ![0, 768] S256x256.size inb_S256x2048_S256x256_0_768)
abbrev ecol4 (w : Vec F S256x2048 .bf16) : Vec F S256x256 .bf16 := View.ld w (Rect.unit (s := S256x2048) ![0, 1024] S256x256.size inb_S256x2048_S256x256_0_1024)
abbrev ecol5 (w : Vec F S256x2048 .bf16) : Vec F S256x256 .bf16 := View.ld w (Rect.unit (s := S256x2048) ![0, 1280] S256x256.size inb_S256x2048_S256x256_0_1280)
abbrev ecol6 (w : Vec F S256x2048 .bf16) : Vec F S256x256 .bf16 := View.ld w (Rect.unit (s := S256x2048) ![0, 1536] S256x256.size inb_S256x2048_S256x256_0_1536)
abbrev ecol7 (w : Vec F S256x2048 .bf16) : Vec F S256x256 .bf16 := View.ld w (Rect.unit (s := S256x2048) ![0, 1792] S256x256.size inb_S256x2048_S256x256_0_1792)

/-- The rows after the output projection, its normalisation and the residual addition, of the selected rows `m` and `x`, -/
def resid (m : Vec F S512x2048 .bf16) (x : FVec F S512x2048 .f32) (w : Vec F S2048x2048 .bf16) (g : Vec F S1x2048 .f32) : FVec F S512x2048 .f32 :=
  k0_pay11 m x (matmul dot_S512x2048_S2048x256_S512x256_1_0_0_1_n_n none m (shapeCast S2048x256 (col0 w) shapeCasts_S2048x256_S2048x256) (constant S512x256 .f32 0x00000000#32)) (matmul dot_S512x2048_S2048x256_S512x256_1_0_0_1_n_n none m (shapeCast S2048x256 (col1 w) shapeCasts_S2048x256_S2048x256) (constant S512x256 .f32 0x00000000#32))
    (matmul dot_S512x2048_S2048x256_S512x256_1_0_0_1_n_n none m (shapeCast S2048x256 (col2 w) shapeCasts_S2048x256_S2048x256) (constant S512x256 .f32 0x00000000#32)) (matmul dot_S512x2048_S2048x256_S512x256_1_0_0_1_n_n none m (shapeCast S2048x256 (col3 w) shapeCasts_S2048x256_S2048x256) (constant S512x256 .f32 0x00000000#32))
    (matmul dot_S512x2048_S2048x256_S512x256_1_0_0_1_n_n none m (shapeCast S2048x256 (col4 w) shapeCasts_S2048x256_S2048x256) (constant S512x256 .f32 0x00000000#32)) (col5 w) (col6 w) (col7 w) g

/-- and the same rounded to the matrix unit's operand type. -/
def residR (m : Vec F S512x2048 .bf16) (x : FVec F S512x2048 .f32) (w : Vec F S2048x2048 .bf16) (g : Vec F S1x2048 .f32) : FVec F S512x2048 .bf16 := truncf .bf16 (resid m x w g) bitsLt_bf16_f32

section
variable (h : FVec F S512x2048 .f32) (hr : FVec F S512x2048 .bf16) (p : FVec F S512x256 .bf16) (wg : Vec F S2048x2048 .bf16) (we : Vec F S256x2048 .bf16)
/-- The four column blocks of the result: the residual rows plus the gated projection of the per-layer rows `p`. -/
def piece0 : FVec F S512x512 .f32 :=
  k0_pay16 p hr (addf (extractStridedSlice S512x256 ![0, 0] h slices_S512x2048_o0_0_S512x256)
      (mulf (logistic (matmul dot_S512x2048_S2048x256_S512x256_1_0_0_1_n_n none hr (shapeCast S2048x256 (col0 wg) shapeCasts_S2048x256_S2048x256) (constant S512x256 .f32 0x00000000#32)))
        (matmul dot_S512x256_S256x256_S512x256_1_0_0_1_n_n none p (shapeCast S256x256 (ecol0 we) shapeCasts_S256x256_S256x256) (constant S512x256 .f32 0x00000000#32))))
    (extractStridedSlice S512x256 ![0, 256] h slices_S512x2048_o0_256_S512x256) (k0_pay15 (col1 wg)) (ecol1 we)
def piece1 : FVec F S512x512 .f32 := k0_pay25 (k0_pay22 p h hr (col2 wg) (ecol2 we)) (k0_pay23 h) (k0_pay24 p hr (col3 wg) (ecol3 we))
def piece2 : FVec F S512x512 .f32 := k0_pay31 p h hr (col4 wg) (ecol4 we) (col5 wg) (ecol5 we)
def piece3 : FVec F S512x512 .f32 := k0_pay38 p h hr (col6 wg) (ecol6 we) (col7 wg) (ecol7 we)

/-- The block of 512 result rows: the four column blocks side by side. -/
def block : Vec F S512x2048 .f32 :=
  View.canon [⟨Rect.unit (s := S512x2048) ![0, 1536] S512x512.size inb_S512x2048_S512x512_0_1536, piece3 h hr p wg we⟩,
    ⟨Rect.unit (s := S512x2048) ![0, 1024] S512x512.size inb_S512x2048_S512x512_0_1024, piece2 h hr p wg we⟩,
    ⟨Rect.unit (s := S512x2048) ![0, 512] S512x512.size inb_S512x2048_S512x512_0_512, piece1 h hr p wg we⟩,
    ⟨Rect.unit (s := S512x2048) ![0, 0] S512x512.size inb_S512x2048_S512x512_0_0, piece0 h hr p wg we⟩]
end

/-- The block of result rows from the buffers' contents at point `i`, which selects the prompt's rows or the sample's. -/
def rows (i : grid0.Coords) (x0 : Vec F S512x2048 .bf16) (x1 : Vec F S512x2048 .f32) (x2 : Vec F S512x256 .f32) (x3 : Vec F S512x2048 .bf16) (x4 : Vec F S512x2048 .f32) (x5 : Vec F S512x256 .f32) (x6 : Vec F S2048x2048 .bf16) (x7 : Vec F S1x2048 .f32) (x8 : Vec F S2048x2048 .bf16) (x9 : Vec F S256x2048 .bf16) : Vec F S512x2048 .f32 :=
  block (resid (k0_pay3 i x3 x0) (k0_pay4 i x4 x1) x6 x7) (residR (k0_pay3 i x3 x0) (k0_pay4 i x4 x1) x6 x7) (k0_pay5 i x5 x2) x8 x9

/-- The block's rows loaded whole, -/
abbrev whole2048 {e : EltTy} (x : Vec F S512x2048 e) : Vec F S512x2048 e := View.ld x (Rect.unit (s := S512x2048) ![0, 0] S512x2048.size inb_S512x2048_S512x2048_0_0)
abbrev whole256 {e : EltTy} (x : Vec F S512x256 e) : Vec F S512x256 e := View.ld x (Rect.unit (s := S512x256) ![0, 0] S512x256.size inb_S512x256_S512x256_0_0)
abbrev wholeGain {e : EltTy} (x : Vec F S1x2048 e) : Vec F S1x2048 e := View.ld x (Rect.unit (s := S1x2048) ![0, 0] S1x2048.size inb_S1x2048_S1x2048_0_0)

/-- are the rows. -/
theorem rows_loaded (i : grid0.Coords) (x0 : Vec F S512x2048 .bf16) (x1 : Vec F S512x2048 .f32) (x2 : Vec F S512x256 .f32) (x3 : Vec F S512x2048 .bf16) (x4 : Vec F S512x2048 .f32) (x5 : Vec F S512x256 .f32) (x6 : Vec F S2048x2048 .bf16) (x7 : Vec F S1x2048 .f32) (x8 : Vec F S2048x2048 .bf16) (x9 : Vec F S256x2048 .bf16) :
    block (resid (k0_pay3 i (whole2048 x3) (whole2048 x0)) (k0_pay4 i (whole2048 x4) (whole2048 x1)) x6 (wholeGain x7))
        (residR (k0_pay3 i (whole2048 x3) (whole2048 x0)) (k0_pay4 i (whole2048 x4) (whole2048 x1)) x6 (wholeGain x7))
        (k0_pay5 i (whole256 x5) (whole256 x2)) x8 x9
      = rows i x0 x1 x2 x3 x4 x5 x6 x7 x8 x9 := by
  have e1 : ∀ {e : EltTy} (x : Vec F S512x2048 e), whole2048 x = x := fun x => View.ld_unit_zero Whole.zero₂ _ x
  have e2 : ∀ {e : EltTy} (x : Vec F S512x256 e), whole256 x = x := fun x => View.ld_unit_zero Whole.zero₂ _ x
  have e3 : ∀ {e : EltTy} (x : Vec F S1x2048 e), wholeGain x = x := fun x => View.ld_unit_zero Whole.zero₂ _ x
  unfold rows
  rw [e1 x3, e1 x0, e1 x4, e1 x1, e2 x5, e2 x2, e3 x7]

/-! ## Four masked stores -/

/-- Every index of the block lies in one of the four stored column blocks. -/
theorem covered (y : S512x2048.Idx) {p0 p1 p2 p3 : FVec F S512x512 .f32} :
    ∃ p ∈ ([⟨Rect.unit (s := S512x2048) ![0, 1536] S512x512.size inb_S512x2048_S512x512_0_1536, p3⟩,
      ⟨Rect.unit (s := S512x2048) ![0, 1024] S512x512.size inb_S512x2048_S512x512_0_1024, p2⟩,
      ⟨Rect.unit (s := S512x2048) ![0, 512] S512x512.size inb_S512x2048_S512x512_0_512, p1⟩,
      ⟨Rect.unit (s := S512x2048) ![0, 0] S512x512.size inb_S512x2048_S512x512_0_0, p0⟩] : List (View.Piece (Elt F) S512x2048 .f32)), y ∈ p.1.set := by
  have h0 : (y 0).val < 512 := (y 0).isLt
  have h1 : (y 1).val < 2048 := (y 1).isLt
  by_cases a : (y 1).val < 512
  · refine ⟨_, List.mem_cons_of_mem _ (List.mem_cons_of_mem _ (List.mem_cons_of_mem _ List.mem_cons_self)), ?_⟩
    show y ∈ (Rect.unit (s := S512x2048) ![0, 0] S512x512.size inb_S512x2048_S512x512_0_0).set
    refine Rect.mem_set_unit.mpr fun k => ?_
    match k with
    | 0 => exact ⟨Nat.zero_le _, h0⟩
    | 1 => exact ⟨Nat.zero_le _, a⟩
  by_cases b : (y 1).val < 1024
  · refine ⟨_, List.mem_cons_of_mem _ (List.mem_cons_of_mem _ List.mem_cons_self), ?_⟩
    show y ∈ (Rect.unit (s := S512x2048) ![0, 512] S512x512.size inb_S512x2048_S512x512_0_512).set
    refine Rect.mem_set_unit.mpr fun k => ?_
    match k with
    | 0 => exact ⟨Nat.zero_le _, h0⟩
    | 1 => exact ⟨not_lt.mp a, b⟩
  by_cases e : (y 1).val < 1536
  · refine ⟨_, List.mem_cons_of_mem _ List.mem_cons_self, ?_⟩
    show y ∈ (Rect.unit (s := S512x2048) ![0, 1024] S512x512.size inb_S512x2048_S512x512_0_1024).set
    refine Rect.mem_set_unit.mpr fun k => ?_
    match k with
    | 0 => exact ⟨Nat.zero_le _, h0⟩
    | 1 => exact ⟨not_lt.mp b, e⟩
  · refine ⟨_, List.mem_cons_self, ?_⟩
    show y ∈ (Rect.unit (s := S512x2048) ![0, 1536] S512x512.size inb_S512x2048_S512x512_0_1536).set
    refine Rect.mem_set_unit.mpr fun k => ?_
    match k with
    | 0 => exact ⟨Nat.zero_le _, h0⟩
    | 1 => exact ⟨not_lt.mp e, h1⟩

section
variable {sp : Space} (a : Memref sig .tc sp S512x2048 .f32) (f : a.view.ty.Contents (Elt F)) (p0 p1 p2 p3 : FVec F S512x512 .f32)
  (M0 M1 M2 M3 : Finset S512x512.Idx)

/-- What four stores of the column blocks leave, each under its own mask. -/
def stored : a.view.ty.Contents (Elt F) :=
  View.write (Elt F) (a.access (Rect.unit (s := S512x2048) ![0, 1536] S512x512.size inb_S512x2048_S512x512_0_1536))
    (View.write (Elt F) (a.access (Rect.unit (s := S512x2048) ![0, 1024] S512x512.size inb_S512x2048_S512x512_0_1024))
      (View.write (Elt F) (a.access (Rect.unit (s := S512x2048) ![0, 512] S512x512.size inb_S512x2048_S512x512_0_512))
        (View.write (Elt F) (a.access (Rect.unit (s := S512x2048) ![0, 0] S512x512.size inb_S512x2048_S512x512_0_0)) f p0 M0)
        p1 M1) p2 M2) p3 M3

/-- Under masks that are on everywhere the four stores leave the four column blocks, -/
theorem stored_on (h0 : M0 = Finset.univ) (h1 : M1 = Finset.univ) (h2 : M2 = Finset.univ) (h3 : M3 = Finset.univ) :
    a.view.read (Elt F) (stored a f p0 p1 p2 p3 M0 M1 M2 M3)
      = View.canon [⟨Rect.unit (s := S512x2048) ![0, 1536] S512x512.size inb_S512x2048_S512x512_0_1536, p3⟩,
          ⟨Rect.unit (s := S512x2048) ![0, 1024] S512x512.size inb_S512x2048_S512x512_0_1024, p2⟩,
          ⟨Rect.unit (s := S512x2048) ![0, 512] S512x512.size inb_S512x2048_S512x512_0_512, p1⟩,
          ⟨Rect.unit (s := S512x2048) ![0, 0] S512x512.size inb_S512x2048_S512x512_0_0, p0⟩] := by
  subst h0 h1 h2 h3
  exact View.read_writes_eq_canon a.view f _ fun y => covered y

/-- that is, the block, where the payloads are its column blocks; -/
theorem stored_block (h : FVec F S512x2048 .f32) (hr : FVec F S512x2048 .bf16) (p : FVec F S512x256 .bf16) (wg : Vec F S2048x2048 .bf16)
    (we : Vec F S256x2048 .bf16) (h0 : M0 = Finset.univ) (h1 : M1 = Finset.univ) (h2 : M2 = Finset.univ) (h3 : M3 = Finset.univ)
    (e0 : p0 = piece0 h hr p wg we) (e1 : p1 = piece1 h hr p wg we) (e2 : p2 = piece2 h hr p wg we) (e3 : p3 = piece3 h hr p wg we) :
    a.view.read (Elt F) (stored a f p0 p1 p2 p3 M0 M1 M2 M3) = block h hr p wg we := by
  rw [stored_on a f p0 p1 p2 p3 M0 M1 M2 M3 h0 h1 h2 h3, e0, e1, e2, e3]; rfl

/-- and under masks that are off everywhere they change nothing. -/
theorem stored_off (h0 : M0 = ∅) (h1 : M1 = ∅) (h2 : M2 = ∅) (h3 : M3 = ∅) : stored a f p0 p1 p2 p3 M0 M1 M2 M3 = f := by
  subst h0 h1 h2 h3
  unfold stored
  simp only [View.write_empty]
end

/-- A store under a mask that is off everywhere. -/
theorem write_off {sig : RefSig} {κ : Kind} {sp : Space} {s : Shape} {e : EltTy} (v : View sig κ sp s e) (f : v.ty.Contents (Elt F))
    (w : s.Idx → Elt F e) (M : Finset s.Idx) (h : M = ∅) : v.write (Elt F) f w M = f := by
  rw [h, View.write_empty]

/-- A mask that is one everywhere is on everywhere, -/
theorem on_univ (M : IVec S512x512 1) (h : ∀ x, M x = 1#1) : IVec.on M = Finset.univ := Finset.filter_true_of_mem fun x _ => h x
/-- and one that is zero everywhere is on nowhere. -/
theorem on_empty (M : IVec S512x512 1) (h : ∀ x, M x = 0#1) : IVec.on M = ∅ :=
  Finset.filter_false_of_mem fun x _ e => absurd ((h x).symm.trans e) (by decide)

/-- Whether point `i` is one of the sample's, as the body's word. -/
abbrev late (i : grid0.Coords) : BitVec 1 := Scalar.cmpi .sge (BitVec.ofNat 32 (i 0).val) 16#32

/-- The prompt's masks are on where the point is a prompt point, -/
theorem masks_prompt (b : BitVec 1) (x : S512x512.Idx) : k0_pay19 b x = b ^^^ 1#1 ∧ k0_pay28 b x = b ^^^ 1#1
    ∧ k0_pay35 (k0_pay33 b) x = b ^^^ 1#1 ∧ k0_pay41 b x = b ^^^ 1#1 := ⟨rfl, rfl, rfl, rfl⟩
/-- the sample's where it is a sample point. -/
theorem masks_sample (b : BitVec 1) (x : S512x512.Idx) : k0_pay21 b x = b ∧ k0_pay30 b x = b
    ∧ k0_pay37 (k0_pay32 b) x = b ∧ k0_pay2 (k0_pay39 b) x = b := ⟨rfl, rfl, rfl, rfl⟩

end Cert.Kernel2Ideal.Gen

end
-- ==== Proof.OutBody.lean ====
/- The output projection's body: what one grid point leaves in the two output blocks, the prompt's and the sample's. -/
module

public import proofs.«01_k».proof.Proof.OutBlock

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole buffers: the inputs stay as they are; at a prompt point the prompt's block is stored and the sample's
    buffer is left alone, at a sample point the other way round. -/
theorem body_triple (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S512x256 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x256 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x2048 .bf16) (harg9 : arg9.IsWhole) (arg10 : Memref sig .tc .vmem S256x2048 .bf16) (harg10 : arg10.IsWhole) (arg11 : Memref sig .tc .vmem S512x2048 .f32) (harg11 : arg11.IsWhole) (arg12 : Memref sig .tc .vmem S512x2048 .f32) (harg12 : arg12.IsWhole)
    (x0 : Vec F S512x2048 .bf16) (x1 : Vec F S512x2048 .f32) (x2 : Vec F S512x256 .f32) (x3 : Vec F S512x2048 .bf16) (x4 : Vec F S512x2048 .f32) (x5 : Vec F S512x256 .f32) (x6 : Vec F S2048x2048 .bf16) (x7 : Vec F S1x2048 .f32) (x8 : Vec F S2048x2048 .bf16) (x9 : Vec F S256x2048 .bf16) (d10 d11 : Vec F S512x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d10 ∗ owns (c : Thread nD τ) arg12 fullShare d11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (if late i = 1#1 then d10 else rows i x0 x1 x2 x3 x4 x5 x6 x7 x8 x9) ∗ owns (c : Thread nD τ) arg12 fullShare (if late i = 1#1 then rows i x0 x1 x2 x3 x4 x5 x6 x7 x8 x9 else d11)) -∗ K ⟨⟩))
          ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12) K := by
    intro E K
    simp only [cc0_out_proj_eq_skeleton]; unfold cc0_out_proj_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; subst hf10; subst hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    by_cases hl : late i = 1#1
    · have hx : late i ^^^ 1#1 = 0#1 := by rw [hl]; rfl
      rw [if_pos hl, if_pos hl]
      isplitl [H10]
      · iexists _; isplitr; swap; · iexact H10
        ipureintro
        delta body_triple.sl.H10_w7 body_triple.sl.H10_w5 body_triple.sl.H10_w3 body_triple.sl.H10_w1
        refine congrArg (arg11.view.read (Elt F)) ?_
        refine (write_off _ _ _ _ (on_empty _ fun x => (masks_prompt (late i) x).2.2.2.trans hx)).trans ?_
        refine (write_off _ _ _ _ (on_empty _ fun x => (masks_prompt (late i) x).2.2.1.trans hx)).trans ?_
        refine (write_off _ _ _ _ (on_empty _ fun x => (masks_prompt (late i) x).2.1.trans hx)).trans ?_
        exact write_off _ _ _ _ (on_empty _ fun x => (masks_prompt (late i) x).1.trans hx)
      iexists _; isplitr; swap; · iexact H11
      ipureintro
      delta body_triple.sl.H11_w8 body_triple.sl.H11_w6 body_triple.sl.H11_w4 body_triple.sl.H11_w2
      rw [← rows_loaded]
      refine stored_block arg12 f11 _ _ _ _ _ _ _ _ _ _ _ _ _ (on_univ _ fun x => (masks_sample (late i) x).1.trans hl) (on_univ _ fun x => (masks_sample (late i) x).2.1.trans hl)
        (on_univ _ fun x => (masks_sample (late i) x).2.2.1.trans hl) (on_univ _ fun x => (masks_sample (late i) x).2.2.2.trans hl) ?_ ?_ ?_ ?_
      all_goals
        repeat (first | delta body_triple.sl.r_1 | delta body_triple.sl.r_2 | delta body_triple.sl.r_3 | delta body_triple.sl.r_4 | delta body_triple.sl.r_5 | delta body_triple.sl.r_6 | delta body_triple.sl.r_7 | delta body_triple.sl.r_8 | delta body_triple.sl.r_9 | delta body_triple.sl.r_10 | delta body_triple.sl.r_11 | delta body_triple.sl.r_12 | delta body_triple.sl.r_13 | delta body_triple.sl.r_14 | delta body_triple.sl.r_15 | delta body_triple.sl.r_16 | delta body_triple.sl.r_17 | delta body_triple.sl.r_18 | delta body_triple.sl.r_19 | delta body_triple.sl.r_20 | delta body_triple.sl.r_21 | delta body_triple.sl.r | delta body_triple.sl.v0)
        simp only [View.readAt_eq_ld, hf0, hf1, hf2, hf3, hf4, hf5, hf6, hf7, hf8, hf9]
      · exact shapeCast_self _ _
      · exact shapeCast_self _ _
      · exact shapeCast_self _ _
      · exact shapeCast_self _ _
    · have h0 : late i = 0#1 := by
        rcases (by decide : ∀ b : BitVec 1, b = 0#1 ∨ b = 1#1) (late i) with h | h
        · exact h
        · exact absurd h hl
      have hx : late i ^^^ 1#1 = 1#1 := by rw [h0]; rfl
      rw [if_neg hl, if_neg hl]
      isplitl [H10]
      · iexists _; isplitr; swap; · iexact H10
        ipureintro
        delta body_triple.sl.H10_w7 body_triple.sl.H10_w5 body_triple.sl.H10_w3 body_triple.sl.H10_w1
        rw [← rows_loaded]
        refine stored_block arg11 f10 _ _ _ _ _ _ _ _ _ _ _ _ _ (on_univ _ fun x => (masks_prompt (late i) x).1.trans hx) (on_univ _ fun x => (masks_prompt (late i) x).2.1.trans hx)
          (on_univ _ fun x => (masks_prompt (late i) x).2.2.1.trans hx) (on_univ _ fun x => (masks_prompt (late i) x).2.2.2.trans hx) ?_ ?_ ?_ ?_
        all_goals
          repeat (first | delta body_triple.sl.r_1 | delta body_triple.sl.r_2 | delta body_triple.sl.r_3 | delta body_triple.sl.r_4 | delta body_triple.sl.r_5 | delta body_triple.sl.r_6 | delta body_triple.sl.r_7 | delta body_triple.sl.r_8 | delta body_triple.sl.r_9 | delta body_triple.sl.r_10 | delta body_triple.sl.r_11 | delta body_triple.sl.r_12 | delta body_triple.sl.r_13 | delta body_triple.sl.r_14 | delta body_triple.sl.r_15 | delta body_triple.sl.r_16 | delta body_triple.sl.r_17 | delta body_triple.sl.r_18 | delta body_triple.sl.r_19 | delta body_triple.sl.r_20 | delta body_triple.sl.r_21 | delta body_triple.sl.r | delta body_triple.sl.v0)
          simp only [View.readAt_eq_ld, hf0, hf1, hf2, hf3, hf4, hf5, hf6, hf7, hf8, hf9]
        · exact shapeCast_self _ _
        · exact shapeCast_self _ _
        · exact shapeCast_self _ _
        · exact shapeCast_self _ _
      iexists _; isplitr; swap; · iexact H11
      ipureintro
      delta body_triple.sl.H11_w8 body_triple.sl.H11_w6 body_triple.sl.H11_w4 body_triple.sl.H11_w2
      refine congrArg (arg12.view.read (Elt F)) ?_
      refine (write_off _ _ _ _ (on_empty _ fun x => (masks_sample (late i) x).2.2.2.trans h0)).trans ?_
      refine (write_off _ _ _ _ (on_empty _ fun x => (masks_sample (late i) x).2.2.1.trans h0)).trans ?_
      refine (write_off _ _ _ _ (on_empty _ fun x => (masks_sample (late i) x).2.1.trans h0)).trans ?_
      exact write_off _ _ _ _ (on_empty _ fun x => (masks_sample (late i) x).1.trans h0)

end Cert.Kernel2Ideal.Gen

end
-- ==== Proof.OutRun.lean ====
/- The output projection's pipeline: what its body leaves in every buffer at every grid point, and the run of the whole program — its
   arrays named, its arguments unchanged, its counters at zero — at any float values. Of the sample's block nothing is said at the
   prompt points, where the body does not touch it and the pipeline does not write it back. -/
module

public import proofs.«01_k».proof.Proof.OutBody
public import proofs.«01_k».proof.Proof.Gen.Kernel2
public import Idealize.ShloMosaic.Lib.Claim
public import Idealize.ShloMosaic.Lib.Pipeline.DatRel
public import Idealize.ShloMosaic.Lib.Pipeline.ArrRel

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Sample points are those from the sixteenth on. -/
theorem late_iff : ∀ t : Fin grid0.N, late (grid0.coords t) = 1#1 ↔ 16 ≤ t.val := by decide +kernel

/-- The last prompt point. -/
def lastPrompt : Fin cfg0.N := ⟨15, lt_of_lt_of_eq (by decide : 15 < 18) N_0.symm⟩

/-- The block of output rows that point `t` computes, from what the pipeline fetched. -/
def rowsAt (c : Dev nD) (t : Fin cfg0.N) : Vec F S512x2048 .f32 :=
  rows (grid0.coords t) (iblk m c 0 t) (iblk m c 1 t) (iblk m c 2 t) (iblk m c 3 t) (iblk m c 4 t) (iblk m c 5 t) (iblk m c 6 t) (iblk m c 7 t) (iblk m c 8 t) (iblk m c 9 t)

/-- What the prompt's buffer holds after point `t`: the point's rows, and after the prompt points the last of theirs. -/
def promptAfter (c : Dev nD) (t : Fin cfg0.N) : Vec F S512x2048 .f32 :=
  if t.val < 16 then rowsAt m c t else rowsAt m c lastPrompt

/-- What each buffer holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => promptAfter m c t
    | ⟨11, _⟩ => rowsAt m c t
  Φ _ := Pipeline.ΦA spec0 c
  q _ := fullShare
  owed _ := 0

/-- Only the sample's buffer is held to less than its exact contents: -/
def loosely : Fin cfg0.W → Bool := fun w => w == 11

/-- from the first sample point on it holds the point's rows. -/
def holdsRows (c : Dev nD) (w : Fin cfg0.W) (t : Fin cfg0.N) (X : (cfg0.win w).block.Idx → Elt F (cfg0.win w).elt) : Prop :=
  16 ≤ t.val → X = (dats m 0 c).after w t

/-- The arrays are those the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = promptAfter m c t := by dsimp only [dats]
theorem after_11 (c : Dev nD) (t : Fin cfg0.N) : (dats m 0 c).after 11 t = rowsAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- The prompt's block is not written back just before a sample point, -/
theorem unflushed_10 : ∀ t : Fin grid0.N, 16 ≤ t.val → win0_10.flush ⟨t.val - 1, Nat.lt_of_le_of_lt (Nat.sub_le _ _) t.isLt⟩ = false := by
  decide +kernel

/-- so at a sample point its buffer still holds the last prompt point's rows. -/
theorem before_10 (c : Dev nD) (t : Fin cfg0.N) (h : 16 ≤ t.val) (d) : (dats m 0 c).before 10 t d = rowsAt m c lastPrompt := by
  have hpos : t.val ≠ 0 := by omega
  rw [(dats m 0 c).before_of_pos 10 t hpos ((cfg0.win 10).fetch_out rfl t) d]
  rw [show (cfg0.win 10).flush ⟨t.val - 1, _⟩ = false from unflushed_10 t h, if_neg Bool.false_ne_true]
  unfold Dat.left
  rw [show cfg0.idle 10 (cfg0.grid.coords ⟨t.val - 1, Nat.lt_of_le_of_lt (Nat.sub_le _ _) t.isLt⟩) = false from rfl]
  dsimp only
  unfold Dat.kept
  rw [Pipeline.fill_of_clip_none 10 _ (fun _ => rfl) d _, Window.fill_cut, after_10]
  unfold promptAfter
  by_cases h16 : t.val - 1 < 16
  · rw [if_pos h16]
    exact congrArg (rowsAt m c) (Fin.ext (show t.val - 1 = 15 by omega))
  · exact if_neg h16

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ Y, ⌜((dats m 0 c).toRRel loosely (holdsRows m c)).Finds 11 t Y⌝ ∗ owns (c : Thread nD τ) (st0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, ⌜holdsRows m c 11 t X⌝ ∗ owns (c : Thread nD τ) (st0_11 t) fullShare X))

set_option maxHeartbeats 1600000 in
/-- The body takes the one to the other, by `body_triple`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩⟩
  iapply (body_triple c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) d11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  by_cases hl : 16 ≤ t.val
  · have h1 : late (grid0.coords t) = 1#1 := (late_iff t).mpr hl
    rw [if_pos h1, if_pos h1, before_10 m c t hl]
    isplitl [H10]
    · rw [show promptAfter m c t = rowsAt m c lastPrompt from if_neg (by omega)]; iexact H10
    iexists _; isplitr; swap; · iexact H11
    ipureintro; intro _; rw [after_11]; rfl
  · have h1 : ¬ late (grid0.coords t) = 1#1 := fun h => hl ((late_iff t).mp h)
    rw [if_neg h1, if_neg h1]
    isplitl [H10]
    · rw [show promptAfter m c t = rowsAt m c t from if_pos (by omega)]; iexact H10
    iexists _; isplitr; swap; · iexact H11
    ipureintro; intro h; exact absurd h hl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) :
    Pipeline.BodyObligationRel (dats (F := F) m 0 c) (defs₀ (F := F)) Variants.none () Set.univ loosely (holdsRows m c) := fun t => by
  rw [bigSep_W0, bigSep_W0, defs₀_row]
  exact triple_restated (sound_body m c t) rfl .rfl fun _ => .rfl

/-! ## The run and the frame -/

/-- The data of the run. -/
def rdat (c : Dev nD) : Pipeline.RDat τ (Elt F) Unit ℕ (UR sig nD τ) ℕ cfg0 c := (dats m 0 c).toRRel loosely (holdsRows m c)

set_option backward.isDefEq.respectTransparency.types false in
/-- The run: every array of the pipeline ends as the data say, every other buffer as the region found it, every counter
    at zero. -/
theorem run : θ_run defs (onTc (τ := τ) (main (F := F))) (s₀ m ρ) (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The program ends with its arguments as launched and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 3 rfl).trans ((A_eq m c 3).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run m ρ)

end Cert.Kernel2Ideal.Gen

end
-- ==== Proof.OutAlgebra.lean ====
/- The output projection, block by block, read at an index: the kernel's blocks and the reference's arrays are the same sums. -/
module

public import proofs.«01_k».proof.Proof.OutRun
public import proofs.«01_k».proof.Proof.InAlgebra
public import proofs.«01_k».proof.Proof.Gen.Reference2Ideal.Read
public import Idealize.ShloMosaic.Lib.Pipeline.ValueKit

@[expose] public section

set_option maxRecDepth 16384

noncomputable section

namespace Cert.Output

open Idealize.ShloMosaic Idealize.ShloMosaic.TcCoe
open Cert.Kernel2Ideal Cert.Kernel2Ideal.Gen Cert.Reference2Ideal.Read

/-- A load of columns `o` onwards, at an index. -/
theorem ld_cols {e : EltTy} {R C n o : ℕ} (w : (⟨2, ![R, C]⟩ : Shape).Idx → Elt Ideal e) (inb : ∀ a, (![0, o] : Fin 2 → ℕ) a + (![R, n] : Fin 2 → ℕ) a ≤ (⟨2, ![R, C]⟩ : Shape).size a)
    (j : Fin R) (l : Fin n) (k : Fin C) (hk : k.val = o + l.val) :
    View.ld (Val := Elt Ideal) w (Rect.unit (s := ⟨2, ![R, C]⟩) ![0, o] ![R, n] inb) (ix2 j l) = w (ix2 j k) := by
  show w _ = w _
  congr 1
  funext a
  apply Fin.ext
  fin_cases a
  · show 0 + 1 * j.val = j.val
    omega
  · show o + 1 * l.val = k.val
    omega

/-- One column block of a product, -/
def part (m : FVec Ideal S512x2048 .bf16) (b : FVec Ideal S2048x256 .bf16) : FVec Ideal S512x256 .f32 :=
  matmul dot_S512x2048_S2048x256_S512x256_1_0_0_1_n_n none m (shapeCast S2048x256 b shapeCasts_S2048x256_S2048x256) (constant S512x256 .f32 0x00000000#32)
/-- at an index, -/
theorem part_apply (m : FVec Ideal S512x2048 .bf16) (b : FVec Ideal S2048x256 .bf16) (r : Fin 512) (l : Fin 256) :
    part m b (ix2 r l) = ∑ j, m (ix2 r j) * b (ix2 j l) := by
  pointwise [part]
/-- and of one of 256 terms. -/
def epart (p : FVec Ideal S512x256 .bf16) (b : FVec Ideal S256x256 .bf16) : FVec Ideal S512x256 .f32 :=
  matmul dot_S512x256_S256x256_S512x256_1_0_0_1_n_n none p (shapeCast S256x256 b shapeCasts_S256x256_S256x256) (constant S512x256 .f32 0x00000000#32)
theorem epart_apply (p : FVec Ideal S512x256 .bf16) (b : FVec Ideal S256x256 .bf16) (r : Fin 512) (l : Fin 256) :
    epart p b (ix2 r l) = ∑ j, p (ix2 r j) * b (ix2 j l) := by
  pointwise [epart]

/-- Eight column blocks of a product, side by side: the kernel's output projection before its normalisation. -/
def cat (m : FVec Ideal S512x2048 .bf16) (w : FVec Ideal S2048x2048 .bf16) : FVec Ideal S512x2048 .f32 :=
  concatenate S512x2048 1 [⟨S512x256, part m (col0 (F := Ideal) w)⟩, ⟨S512x256, part m (col1 (F := Ideal) w)⟩, ⟨S512x256, part m (col2 (F := Ideal) w)⟩, ⟨S512x256, part m (col3 (F := Ideal) w)⟩,
      ⟨S512x256, part m (col4 (F := Ideal) w)⟩, ⟨S512x256, part m (col5 (F := Ideal) w)⟩, ⟨S512x256, part m (col6 (F := Ideal) w)⟩, ⟨S512x256, part m (col7 (F := Ideal) w)⟩]
    concatenates_S512x256_S512x256_S512x256_S512x256_S512x256_S512x256_S512x256_S512x256_S512x2048_d1

/-- At an index it is the whole product there. -/
theorem cat_apply (m : FVec Ideal S512x2048 .bf16) (w : FVec Ideal S2048x2048 .bf16) (r : Fin 512) (k : Fin 2048) :
    cat m w (ix2 r k) = ∑ j, m (ix2 r j) * w (ix2 j k) := by
  pointwise [cat]
  have at_ : ∀ (b : FVec Ideal S2048x256 .bf16) (l : Fin 256), (∀ j, b (ix2 j l) = w (ix2 j k)) → part m b (ix2 r l) = ∑ j, m (ix2 r j) * w (ix2 j k) :=
    fun b l hb => (part_apply m b r l).trans (Finset.sum_congr rfl fun j _ => congrArg (m (ix2 r j) * ·) (hb j))
  have hk := k.isLt
  repeat' split
  · exact at_ _ _ fun j => ld_cols (e := .bf16) (R := 2048) (C := 2048) (n := 256) (o := 0) w inb_S2048x2048_S2048x256_0_0 j _ k (by dsimp only; omega)
  · exact at_ _ _ fun j => ld_cols (e := .bf16) (R := 2048) (C := 2048) (n := 256) (o := 256) w inb_S2048x2048_S2048x256_0_256 j _ k (by dsimp only; omega)
  · exact at_ _ _ fun j => ld_cols (e := .bf16) (R := 2048) (C := 2048) (n := 256) (o := 512) w inb_S2048x2048_S2048x256_0_512 j _ k (by dsimp only; omega)
  · exact at_ _ _ fun j => ld_cols (e := .bf16) (R := 2048) (C := 2048) (n := 256) (o := 768) w inb_S2048x2048_S2048x256_0_768 j _ k (by dsimp only; omega)
  · exact at_ _ _ fun j => ld_cols (e := .bf16) (R := 2048) (C := 2048) (n := 256) (o := 1024) w inb_S2048x2048_S2048x256_0_1024 j _ k (by dsimp only; omega)
  · exact at_ _ _ fun j => ld_cols (e := .bf16) (R := 2048) (C := 2048) (n := 256) (o := 1280) w inb_S2048x2048_S2048x256_0_1280 j _ k (by dsimp only; omega)
  · exact at_ _ _ fun j => ld_cols (e := .bf16) (R := 2048) (C := 2048) (n := 256) (o := 1536) w inb_S2048x2048_S2048x256_0_1536 j _ k (by dsimp only; omega)
  · exact at_ _ _ fun j => ld_cols (e := .bf16) (R := 2048) (C := 2048) (n := 256) (o := 1792) w inb_S2048x2048_S2048x256_0_1792 j _ k (by dsimp only; omega)

/-- The kernel's rows after the normalisation and the residual addition, of the rows `q` before it. -/
def settle (q x : FVec Ideal S512x2048 .f32) (g : FVec Ideal S1x2048 .f32) : FVec Ideal S512x2048 .f32 :=
  addf x (mulf (mulf q (broadcastTo S512x2048 (rsqrt (addf (divf (shapeCast S512x1 (multiReduction .add [1] S512 (mulf q q) 0x00000000#32 reduces_S512x2048_S512 (.inl rfl) rfl) shapeCasts_S512_S512x1)
      (broadcast S512x1 (Scalar.ofBits .f32 0x45000000#32))) (broadcast S512x1 (Scalar.ofBits .f32 0x358637BD#32)))) broadcasts_S512x1_S512x2048))
    (broadcastTo S512x2048 (shapeCast S1x2048 g shapeCasts_S1x2048_S1x2048) broadcasts_S1x2048_S512x2048))

theorem resid_eq (m : FVec Ideal S512x2048 .bf16) (x : FVec Ideal S512x2048 .f32) (w : FVec Ideal S2048x2048 .bf16) (g : FVec Ideal S1x2048 .f32) :
    resid m x w g = settle (cat m w) x g := by
  unfold resid k0_pay11 settle cat part
  rfl

theorem settle_apply (q x : FVec Ideal S512x2048 .f32) (g : FVec Ideal S1x2048 .f32) (r : Fin 512) (k : Fin 2048) :
    settle q x g (ix2 r k) = x (ix2 r k) + Cert.Sample.normAt q g r k := by
  pointwise [settle]
  rfl

variable (h : FVec Ideal S512x2048 .f32) (hr : FVec Ideal S512x2048 .bf16) (p : FVec Ideal S512x256 .bf16) (wg : FVec Ideal S2048x2048 .bf16) (we : FVec Ideal S256x2048 .bf16)

/-- One column block of the result, of the residual rows `h` and the blocks of the two weights. -/
def gate (o : ℕ) (hs : S512x2048.Slices ![0, o] S512x256) (b : FVec Ideal S2048x256 .bf16) (e : FVec Ideal S256x256 .bf16) : FVec Ideal S512x256 .f32 :=
  addf (extractStridedSlice S512x256 ![0, o] h hs) (mulf (logistic (part hr b)) (epart p e))

theorem piece0_eq : piece0 h hr p wg we = concatenate S512x512 1 [⟨S512x256, gate h hr p 0 slices_S512x2048_o0_0_S512x256 (col0 (F := Ideal) wg) (ecol0 (F := Ideal) we)⟩, ⟨S512x256, gate h hr p 256 slices_S512x2048_o0_256_S512x256 (col1 (F := Ideal) wg) (ecol1 (F := Ideal) we)⟩] concatenates_S512x256_S512x256_S512x512_d1 := rfl
theorem piece1_eq : piece1 h hr p wg we = concatenate S512x512 1 [⟨S512x256, gate h hr p 512 slices_S512x2048_o0_512_S512x256 (col2 (F := Ideal) wg) (ecol2 (F := Ideal) we)⟩, ⟨S512x256, gate h hr p 768 slices_S512x2048_o0_768_S512x256 (col3 (F := Ideal) wg) (ecol3 (F := Ideal) we)⟩] concatenates_S512x256_S512x256_S512x512_d1 := rfl
theorem piece2_eq : piece2 h hr p wg we = concatenate S512x512 1 [⟨S512x256, gate h hr p 1024 slices_S512x2048_o0_1024_S512x256 (col4 (F := Ideal) wg) (ecol4 (F := Ideal) we)⟩, ⟨S512x256, gate h hr p 1280 slices_S512x2048_o0_1280_S512x256 (col5 (F := Ideal) wg) (ecol5 (F := Ideal) we)⟩] concatenates_S512x256_S512x256_S512x512_d1 := rfl
theorem piece3_eq : piece3 h hr p wg we = concatenate S512x512 1 [⟨S512x256, gate h hr p 1536 slices_S512x2048_o0_1536_S512x256 (col6 (F := Ideal) wg) (ecol6 (F := Ideal) we)⟩, ⟨S512x256, gate h hr p 1792 slices_S512x2048_o0_1792_S512x256 (col7 (F := Ideal) wg) (ecol7 (F := Ideal) we)⟩] concatenates_S512x256_S512x256_S512x512_d1 := rfl

/-- The result row `r` at column `k`, of the residual rows. -/
def gated {R : ℕ} (h : (⟨2, ![R, 2048]⟩ : Shape).Idx → EReal) (p : (⟨2, ![R, 256]⟩ : Shape).Idx → EReal) (wg : Fin 2048 → Fin 2048 → EReal) (we : Fin 256 → Fin 2048 → EReal)
    (r : Fin R) (k : Fin 2048) : EReal :=
  h (ix2 r k) + Ideal.logistic (∑ j, h (ix2 r j) * wg j k) * ∑ j, p (ix2 r j) * we j k

/-- A column block at an index. -/
theorem gate_apply (o : ℕ) (hs : S512x2048.Slices ![0, o] S512x256) (b : FVec Ideal S2048x256 .bf16) (e : FVec Ideal S256x256 .bf16) (r : Fin 512) (l : Fin 256) (k : Fin 2048)
    (hk : k.val = o + l.val) (hb : ∀ j, b (ix2 j l) = wg (ix2 j k)) (he : ∀ j, e (ix2 j l) = we (ix2 j k)) :
    gate h (truncf .bf16 h bitsLt_bf16_f32) p o hs b e (ix2 r l) = gated h p (fun j k => wg (ix2 j k)) (fun j k => we (ix2 j k)) r k := by
  pointwise [gate]
  simp only [part_apply, epart_apply, hb, he]
  exact congrArg (fun z => h (ix2 r z) + _) (Fin.ext hk.symm)

/-- Two of them side by side. -/
theorem pair_apply (A B : FVec Ideal S512x256 .f32) (r l : Fin 512) (v : EReal) (hA : ∀ b : Fin 256, b.val = l.val → A (ix2 r b) = v)
    (hB : ∀ b : Fin 256, b.val + 256 = l.val → B (ix2 r b) = v) :
    concatenate S512x512 1 [⟨S512x256, A⟩, ⟨S512x256, B⟩] concatenates_S512x256_S512x256_S512x512_d1 (ix2 r l) = v := by
  have hl := l.isLt
  pointwise
  split
  · exact hA _ rfl
  · exact hB _ (by dsimp only; omega)

theorem piece0_apply (r l : Fin 512) (k : Fin 2048) (hk : k.val = 0 + l.val) :
    piece0 h (truncf .bf16 h bitsLt_bf16_f32) p wg we (ix2 r l) = gated h p (fun j k => wg (ix2 j k)) (fun j k => we (ix2 j k)) r k := by
  rw [piece0_eq]
  exact pair_apply _ _ r l _
    (fun b hb => gate_apply h p wg we _ _ _ _ r b k (by omega) (fun j => ld_cols (e := .bf16) (R := 2048) (C := 2048) (n := 256) (o := 0) wg inb_S2048x2048_S2048x256_0_0 j b k (by omega)) (fun j => ld_cols (e := .bf16) (R := 256) (C := 2048) (n := 256) (o := 0) we inb_S256x2048_S256x256_0_0 j b k (by omega)))
    (fun b hb => gate_apply h p wg we _ _ _ _ r b k (by omega) (fun j => ld_cols (e := .bf16) (R := 2048) (C := 2048) (n := 256) (o := 256) wg inb_S2048x2048_S2048x256_0_256 j b k (by omega)) (fun j => ld_cols (e := .bf16) (R := 256) (C := 2048) (n := 256) (o := 256) we inb_S256x2048_S256x256_0_256 j b k (by omega)))
theorem piece1_apply (r l : Fin 512) (k : Fin 2048) (hk : k.val = 512 + l.val) :
    piece1 h (truncf .bf16 h bitsLt_bf16_f32) p wg we (ix2 r l) = gated h p (fun j k => wg (ix2 j k)) (fun j k => we (ix2 j k)) r k := by
  rw [piece1_eq]
  exact pair_apply _ _ r l _
    (fun b hb => gate_apply h p wg we _ _ _ _ r b k (by omega) (fun j => ld_cols (e := .bf16) (R := 2048) (C := 2048) (n := 256) (o := 512) wg inb_S2048x2048_S2048x256_0_512 j b k (by omega)) (fun j => ld_cols (e := .bf16) (R := 256) (C := 2048) (n := 256) (o := 512) we inb_S256x2048_S256x256_0_512 j b k (by omega)))
    (fun b hb => gate_apply h p wg we _ _ _ _ r b k (by omega) (fun j => ld_cols (e := .bf16) (R := 2048) (C := 2048) (n := 256) (o := 768) wg inb_S2048x2048_S2048x256_0_768 j b k (by omega)) (fun j => ld_cols (e := .bf16) (R := 256) (C := 2048) (n := 256) (o := 768) we inb_S256x2048_S256x256_0_768 j b k (by omega)))
theorem piece2_apply (r l : Fin 512) (k : Fin 2048) (hk : k.val = 1024 + l.val) :
    piece2 h (truncf .bf16 h bitsLt_bf16_f32) p wg we (ix2 r l) = gated h p (fun j k => wg (ix2 j k)) (fun j k => we (ix2 j k)) r k := by
  rw [piece2_eq]
  exact pair_apply _ _ r l _
    (fun b hb => gate_apply h p wg we _ _ _ _ r b k (by omega) (fun j => ld_cols (e := .bf16) (R := 2048) (C := 2048) (n := 256) (o := 1024) wg inb_S2048x2048_S2048x256_0_1024 j b k (by omega)) (fun j => ld_cols (e := .bf16) (R := 256) (C := 2048) (n := 256) (o := 1024) we inb_S256x2048_S256x256_0_1024 j b k (by omega)))
    (fun b hb => gate_apply h p wg we _ _ _ _ r b k (by omega) (fun j => ld_cols (e := .bf16) (R := 2048) (C := 2048) (n := 256) (o := 1280) wg inb_S2048x2048_S2048x256_0_1280 j b k (by omega)) (fun j => ld_cols (e := .bf16) (R := 256) (C := 2048) (n := 256) (o := 1280) we inb_S256x2048_S256x256_0_1280 j b k (by omega)))
theorem piece3_apply (r l : Fin 512) (k : Fin 2048) (hk : k.val = 1536 + l.val) :
    piece3 h (truncf .bf16 h bitsLt_bf16_f32) p wg we (ix2 r l) = gated h p (fun j k => wg (ix2 j k)) (fun j k => we (ix2 j k)) r k := by
  rw [piece3_eq]
  exact pair_apply _ _ r l _
    (fun b hb => gate_apply h p wg we _ _ _ _ r b k (by omega) (fun j => ld_cols (e := .bf16) (R := 2048) (C := 2048) (n := 256) (o := 1536) wg inb_S2048x2048_S2048x256_0_1536 j b k (by omega)) (fun j => ld_cols (e := .bf16) (R := 256) (C := 2048) (n := 256) (o := 1536) we inb_S256x2048_S256x256_0_1536 j b k (by omega)))
    (fun b hb => gate_apply h p wg we _ _ _ _ r b k (by omega) (fun j => ld_cols (e := .bf16) (R := 2048) (C := 2048) (n := 256) (o := 1792) wg inb_S2048x2048_S2048x256_0_1792 j b k (by omega)) (fun j => ld_cols (e := .bf16) (R := 256) (C := 2048) (n := 256) (o := 1792) we inb_S256x2048_S256x256_0_1792 j b k (by omega)))

/-- The block at an index. -/
theorem block_apply (r : Fin 512) (k : Fin 2048) :
    block h (truncf .bf16 h bitsLt_bf16_f32) p wg we (ix2 r k) = gated h p (fun j k => wg (ix2 j k)) (fun j k => we (ix2 j k)) r k := by
  refine View.canon_eq_of_allAt _ _ _ (covered _) fun q hq x hx => ?_
  have at_ : ∀ (o : ℕ) (inb) (x : S512x512.Idx), (Rect.unit (s := S512x2048) ![0, o] S512x512.size inb).emb x = (ix2 r k : S512x2048.Idx) →
      x = ix2 r (x 1) ∧ k.val = o + (x 1).val := fun o inb x hx => by
    have h0 := congrArg (fun z : S512x2048.Idx => (z 0).val) hx
    have h1 := congrArg (fun z : S512x2048.Idx => (z 1).val) hx
    replace h0 : 0 + 1 * (x 0).val = r.val := h0
    replace h1 : o + 1 * (x 1).val = k.val := h1
    refine ⟨(eq_ix2 x).trans (congrArg (ix2 · (x 1)) (Fin.ext (by omega))), by omega⟩
  simp only [List.mem_cons, List.not_mem_nil, or_false] at hq
  rcases hq with rfl | rfl | rfl | rfl
  · obtain ⟨e, hk⟩ := at_ 1536 inb_S512x2048_S512x512_0_1536 x hx
    exact (congrArg (piece3 h _ p wg we) e).trans (piece3_apply h p wg we r _ k hk)
  · obtain ⟨e, hk⟩ := at_ 1024 inb_S512x2048_S512x512_0_1024 x hx
    exact (congrArg (piece2 h _ p wg we) e).trans (piece2_apply h p wg we r _ k hk)
  · obtain ⟨e, hk⟩ := at_ 512 inb_S512x2048_S512x512_0_512 x hx
    exact (congrArg (piece1 h _ p wg we) e).trans (piece1_apply h p wg we r _ k hk)
  · obtain ⟨e, hk⟩ := at_ 0 inb_S512x2048_S512x512_0_0 x hx
    exact (congrArg (piece0 h _ p wg we) e).trans (piece0_apply h p wg we r _ k hk)

/-! ## The whole row -/

/-- Row `r` of the product with the output weights. -/
def projected {R : ℕ} (m : (⟨2, ![R, 2048]⟩ : Shape).Idx → EReal) (w : Fin 2048 → Fin 2048 → EReal) : (⟨2, ![R, 2048]⟩ : Shape).Idx → EReal :=
  fun y => ∑ j, m (ix2 (y 0) j) * w j (y 1)

/-- The residual rows. -/
def settled {R : ℕ} (m x : (⟨2, ![R, 2048]⟩ : Shape).Idx → EReal) (w : Fin 2048 → Fin 2048 → EReal) (g : (⟨2, ![1, 2048]⟩ : Shape).Idx → EReal) : (⟨2, ![R, 2048]⟩ : Shape).Idx → EReal :=
  fun y => x y + Cert.Sample.normAt (projected m w) g (y 0) (y 1)

/-- The result rows, from the merged branches `m`, the layer's input `x`, the per-layer rows `p` and the weights. -/
def result {R : ℕ} (m x : (⟨2, ![R, 2048]⟩ : Shape).Idx → EReal) (p : (⟨2, ![R, 256]⟩ : Shape).Idx → EReal) (w : Fin 2048 → Fin 2048 → EReal)
    (g : (⟨2, ![1, 2048]⟩ : Shape).Idx → EReal) (wg : Fin 2048 → Fin 2048 → EReal) (we : Fin 256 → Fin 2048 → EReal) (r : Fin R) (k : Fin 2048) : EReal :=
  gated (settled m x w g) p wg we r k

/-- What the kernel computes of one block, at an index. -/
theorem kernel_apply (m : FVec Ideal S512x2048 .bf16) (x : FVec Ideal S512x2048 .f32) (p : FVec Ideal S512x256 .bf16) (w : FVec Ideal S2048x2048 .bf16) (g : FVec Ideal S1x2048 .f32)
    (wg : FVec Ideal S2048x2048 .bf16) (we : FVec Ideal S256x2048 .bf16) (r : Fin 512) (k : Fin 2048) :
    block (resid m x w g) (residR m x w g) p wg we (ix2 r k)
      = result m x p (fun j k => w (ix2 j k)) g (fun j k => wg (ix2 j k)) (fun j k => we (ix2 j k)) r k := by
  have e : cat m w = projected m (fun j k => w (ix2 j k)) := funext fun y => by
    obtain ⟨a, b, rfl⟩ : ∃ (a : Fin 512) (b : Fin 2048), y = ix2 a b := ⟨y 0, y 1, eq_ix2 y⟩
    exact cat_apply m w a b
  have e' : resid m x w g = settled m x (fun j k => w (ix2 j k)) g := funext fun y => by
    obtain ⟨a, b, rfl⟩ : ∃ (a : Fin 512) (b : Fin 2048), y = ix2 a b := ⟨y 0, y 1, eq_ix2 y⟩
    exact (congrFun (resid_eq m x w g) _).trans ((settle_apply _ x g a b).trans (congrArg (fun q => x (ix2 a b) + Cert.Sample.normAt q g a b) e))
  refine (block_apply (resid m x w g) p wg we r k).trans ?_
  rw [e']; rfl

end Cert.Output

end
-- ==== Proof.OutReference.lean ====
/- The reference's output projection, read at an index: the same rows as the kernel's. -/
module

public import proofs.«01_k».proof.Proof.OutAlgebra

@[expose] public section

set_option maxRecDepth 16384

noncomputable section

namespace Cert.Output

open Idealize.ShloMosaic Idealize.ShloMosaic.TcCoe
open Cert.Reference2Ideal Cert.Reference2Ideal.Read

variable (x0 : FVec Ideal S8192x2048 .bf16) (x1 : FVec Ideal S1024x2048 .bf16) (x2 : FVec Ideal S4x2048x2048 .f32) (x3 : FVec Ideal S128x8x2048 .f32)
  (x4 : FVec Ideal S1x4x2048x256 .f32) (x5 : FVec Ideal S1x128x8x256 .f32) (x6 : FVec Ideal S1x2048x2048 .f32) (x7 : FVec Ideal S1x2048 .f32)
  (x8 : FVec Ideal S1x2048x2048 .f32) (x9 : FVec Ideal S1x256x2048 .f32)

/-- The prompt: the product, -/
theorem product_prompt : val_main_v8 (F := Ideal) x0 x6 = projected (R := 8192) x0 (fun j k => x6 (ix3 0 j k)) := by
  funext y
  obtain ⟨r, k, rfl⟩ : ∃ (r : Fin 8192) (k : Fin 2048), y = ix2 r k := ⟨y 0, y 1, eq_ix2 y⟩
  pointwise [val_main_v8, val_main_v7, val_main_v0]
  rfl
/-- the residual rows, -/
theorem settled_prompt : val_main_v22 (F := Ideal) x0 x2 x6 x7 = settled (R := 8192) x0 (val_main_v4 (F := Ideal) x2) (fun j k => x6 (ix3 0 j k)) x7 := by
  funext y
  obtain ⟨r, k, rfl⟩ : ∃ (r : Fin 8192) (k : Fin 2048), y = ix2 r k := ⟨y 0, y 1, eq_ix2 y⟩
  pointwise [val_main_v22, val_main_v21, val_main_v20, val_main_v19, val_main_v18, val_main_v17, val_main_v16, val_main_v15, val_main_v14, val_main_v13, val_main_v12,
    val_main_v11, val_main_v10, val_main_v9, val_main_v1, val_main_cst, val_main_cst_0, val_main_cst_1]
  rw [product_prompt]
  rfl
/-- and the result. -/
theorem reference_prompt (r : Fin 8192) (k : Fin 2048) :
    val_main_v32 (F := Ideal) x0 x2 x4 x6 x7 x8 x9 (ix2 r k)
      = result (R := 8192) x0 (val_main_v4 (F := Ideal) x2) (val_main_v6 (F := Ideal) x4) (fun j k => x6 (ix3 0 j k)) x7 (fun j k => x8 (ix3 0 j k)) (fun j k => x9 (ix3 0 j k)) r k := by
  pointwise [val_main_v32, val_main_v31, val_main_v30, val_main_v29, val_main_v28, val_main_v27, val_main_v26, val_main_v25, val_main_v24, val_main_v23,
    val_main_v2, val_main_v3, val_main_cst_2, val_main_cst_3]
  rw [settled_prompt]
  rfl

/-- The sample: the product, -/
theorem product_sample : val_main_v37 (F := Ideal) x1 x6 = projected (R := 1024) x1 (fun j k => x6 (ix3 0 j k)) := by
  funext y
  obtain ⟨r, k, rfl⟩ : ∃ (r : Fin 1024) (k : Fin 2048), y = ix2 r k := ⟨y 0, y 1, eq_ix2 y⟩
  pointwise [val_main_v37, val_main_v36, val_main_v0]
  rfl
/-- the residual rows, -/
theorem settled_sample : val_main_v51 (F := Ideal) x1 x3 x6 x7 = settled (R := 1024) x1 (val_main_v33 (F := Ideal) x3) (fun j k => x6 (ix3 0 j k)) x7 := by
  funext y
  obtain ⟨r, k, rfl⟩ : ∃ (r : Fin 1024) (k : Fin 2048), y = ix2 r k := ⟨y 0, y 1, eq_ix2 y⟩
  pointwise [val_main_v51, val_main_v50, val_main_v49, val_main_v48, val_main_v47, val_main_v46, val_main_v45, val_main_v44, val_main_v43, val_main_v42, val_main_v41,
    val_main_v40, val_main_v39, val_main_v38, val_main_v1, val_main_cst_4, val_main_cst_5, val_main_cst_6]
  rw [product_sample]
  rfl
/-- and the result. -/
theorem reference_sample (r : Fin 1024) (k : Fin 2048) :
    val_main_v61 (F := Ideal) x1 x3 x5 x6 x7 x8 x9 (ix2 r k)
      = result (R := 1024) x1 (val_main_v33 (F := Ideal) x3) (val_main_v35 (F := Ideal) x5) (fun j k => x6 (ix3 0 j k)) x7 (fun j k => x8 (ix3 0 j k)) (fun j k => x9 (ix3 0 j k)) r k := by
  pointwise [val_main_v61, val_main_v60, val_main_v59, val_main_v58, val_main_v57, val_main_v56, val_main_v55, val_main_v54, val_main_v53, val_main_v52,
    val_main_v2, val_main_v3, val_main_cst_7, val_main_cst_8]
  rw [settled_sample]
  rfl

end Cert.Output

end
-- ==== Proof.OutValue.lean ====
/- What the two result arrays of the output projection hold after the run. -/
module

public import proofs.«01_k».proof.Proof.OutReference
public import Idealize.ShloMosaic.Lib.StableHlo.ReadAt

@[expose] public section

set_option maxRecDepth 16384

noncomputable section

namespace Cert.Output

open Idealize.ShloMosaic Idealize.ShloMosaic.TcCoe Idealize.SL.Sem
open Cert.Kernel2Ideal Cert.Kernel2Ideal.Gen Cert.Reference2Ideal.Read
open Idealize.ShloMosaic.Pipeline (Dat Cfg Window RDat)

/-- A result row needs one row of each array of rows, and the weights. -/
theorem result_congr {R R' : ℕ} {m x : (⟨2, ![R, 2048]⟩ : Shape).Idx → EReal} {p : (⟨2, ![R, 256]⟩ : Shape).Idx → EReal}
    {m' x' : (⟨2, ![R', 2048]⟩ : Shape).Idx → EReal} {p' : (⟨2, ![R', 256]⟩ : Shape).Idx → EReal} {w w' : Fin 2048 → Fin 2048 → EReal}
    {g g' : (⟨2, ![1, 2048]⟩ : Shape).Idx → EReal} {wg wg' : Fin 2048 → Fin 2048 → EReal} {we we' : Fin 256 → Fin 2048 → EReal} (r : Fin R) (r' : Fin R') (k : Fin 2048)
    (hm : ∀ j, m (ix2 r j) = m' (ix2 r' j)) (hx : ∀ j, x (ix2 r j) = x' (ix2 r' j)) (hp : ∀ j, p (ix2 r j) = p' (ix2 r' j)) (hw : ∀ j k, w j k = w' j k)
    (hg : ∀ k, g (ix2 0 k) = g' (ix2 0 k)) (hwg : ∀ j k, wg j k = wg' j k) (hwe : ∀ j k, we j k = we' j k) :
    result m x p w g wg we r k = result m' x' p' w' g' wg' we' r' k := by
  obtain rfl : w = w' := funext fun j => funext fun k => hw j k
  obtain rfl : wg = wg' := funext fun j => funext fun k => hwg j k
  obtain rfl : we = we' := funext fun j => funext fun k => hwe j k
  have hq : ∀ k, projected m w (ix2 r k) = projected m' w (ix2 r' k) := fun k => Finset.sum_congr rfl fun j _ => congrArg (· * w j k) (hm j)
  have hs : ∀ k, settled m x w g (ix2 r k) = settled m' x' w g' (ix2 r' k) := fun k => by
    show x (ix2 r k) + Cert.Sample.normAt (projected m w) g r k = x' (ix2 r' k) + Cert.Sample.normAt (projected m' w) g' r' k
    unfold Cert.Sample.normAt
    simp only [hx, hq, hg]
  unfold result gated
  simp only [hs, hp]

variable (m : (ℓ : Loc nD τ sig) → Buf (Elt Ideal) ℓ) (c : Dev nD)

/-- The ten arguments. -/
abbrev argM : FVec Ideal S8192x2048 .bf16 := m ((c : Thread nD τ).loc main_arg0)
abbrev argMs : FVec Ideal S1024x2048 .bf16 := m ((c : Thread nD τ).loc main_arg1)
abbrev argX : FVec Ideal S4x2048x2048 .f32 := m ((c : Thread nD τ).loc main_arg2)
abbrev argXs : FVec Ideal S128x8x2048 .f32 := m ((c : Thread nD τ).loc main_arg3)
abbrev argP : FVec Ideal S1x4x2048x256 .f32 := m ((c : Thread nD τ).loc main_arg4)
abbrev argPs : FVec Ideal S1x128x8x256 .f32 := m ((c : Thread nD τ).loc main_arg5)
abbrev argW : FVec Ideal S1x2048x2048 .f32 := m ((c : Thread nD τ).loc main_arg6)
abbrev argG : FVec Ideal S1x2048 .f32 := m ((c : Thread nD τ).loc main_arg7)
abbrev argWg : FVec Ideal S1x2048x2048 .f32 := m ((c : Thread nD τ).loc main_arg8)
abbrev argWe : FVec Ideal S1x256x2048 .f32 := m ((c : Thread nD τ).loc main_arg9)

/-! ## The arrays the region finds -/

theorem V_x : V m c main_v8 = val_main_v4 (F := Ideal) (argX m c) := by
  unfold V; after_results_simp; rfl
theorem V_xs : V m c main_v9 = val_main_v33 (F := Ideal) (argXs m c) := by
  unfold V; after_results_simp; rfl
theorem V_p : V m c main_v11 = val_main_v6 (F := Ideal) (argP m c) := by
  unfold V; after_results_simp; rfl
theorem V_ps : V m c main_v13 = val_main_v35 (F := Ideal) (argPs m c) := by
  unfold V; after_results_simp; rfl
theorem V_w (j k : Fin 2048) : V m c main_v1 (ix2 j k) = argW m c (ix3 0 j k) := by
  unfold V; after_reads_at
theorem V_g (k : Fin 2048) : V m c main_v3 (ix2 0 k) = argG m c (ix2 0 k) := by
  unfold V; after_reads_at
theorem V_wg (j k : Fin 2048) : V m c main_v5 (ix2 j k) = argWg m c (ix3 0 j k) := by
  unfold V; after_reads_at
theorem V_we (j : Fin 256) (k : Fin 2048) : V m c main_v7 (ix2 j k) = argWe m c (ix3 0 j k) := by
  unfold V; after_reads_at

/-! ## The input blocks -/

/-- At a prompt point the prompt's windows start at row `512 t`, -/
theorem index_prompt : ∀ t : Fin grid0.N, win0_0.index t = ![min t.val 15, 0] ∧ win0_1.index t = ![min t.val 15, 0] ∧ win0_2.index t = ![min t.val 15, 0]
    ∧ win0_10.index t = ![min t.val 15, 0] := by decide +kernel
/-- at a sample point the sample's at row `512 (t - 16)`. -/
theorem index_sample : ∀ t : Fin grid0.N, win0_3.index t = ![t.val - 16, 0] ∧ win0_4.index t = ![t.val - 16, 0] ∧ win0_5.index t = ![t.val - 16, 0]
    ∧ win0_11.index t = ![t.val - 16, 0] := by decide +kernel

section
variable (t : Fin cfg0.N) (r : Fin 512)

theorem block_m (j : Fin 2048) (R : Fin 8192) (hR : R.val = min t.val 15 * 512 + r.val) : iblk m c 0 t (ix2 r j) = argM m c (ix2 R j) := by
  rw [show argM m c = V m c main_arg0 from (V_main_arg0 m c).symm]
  show V m c main_arg0 ((win0_0.rect t).emb (ix2 r j)) = _
  congr 1; funext a; apply Fin.ext
  rw [Window.rect_emb_val_off, (index_prompt t).1]
  fin_cases a
  · exact hR.symm
  · show 0 * 2048 + j.val = j.val
    omega
theorem block_x (j : Fin 2048) (R : Fin 8192) (hR : R.val = min t.val 15 * 512 + r.val) : iblk m c 1 t (ix2 r j) = val_main_v4 (F := Ideal) (argX m c) (ix2 R j) := by
  rw [← V_x]
  show V m c main_v8 ((win0_1.rect t).emb (ix2 r j)) = _
  congr 1; funext a; apply Fin.ext
  rw [Window.rect_emb_val_off, (index_prompt t).2.1]
  fin_cases a
  · exact hR.symm
  · show 0 * 2048 + j.val = j.val
    omega
theorem block_p (j : Fin 256) (R : Fin 8192) (hR : R.val = min t.val 15 * 512 + r.val) : iblk m c 2 t (ix2 r j) = val_main_v6 (F := Ideal) (argP m c) (ix2 R j) := by
  rw [← V_p]
  show V m c main_v11 ((win0_2.rect t).emb (ix2 r j)) = _
  congr 1; funext a; apply Fin.ext
  rw [Window.rect_emb_val_off, (index_prompt t).2.2.1]
  fin_cases a
  · exact hR.symm
  · show 0 * 256 + j.val = j.val
    omega
theorem block_ms (j : Fin 2048) (R : Fin 1024) (hR : R.val = (t.val - 16) * 512 + r.val) : iblk m c 3 t (ix2 r j) = argMs m c (ix2 R j) := by
  rw [show argMs m c = V m c main_arg1 from (V_main_arg1 m c).symm]
  show V m c main_arg1 ((win0_3.rect t).emb (ix2 r j)) = _
  congr 1; funext a; apply Fin.ext
  rw [Window.rect_emb_val_off, (index_sample t).1]
  fin_cases a
  · exact hR.symm
  · show 0 * 2048 + j.val = j.val
    omega
theorem block_xs (j : Fin 2048) (R : Fin 1024) (hR : R.val = (t.val - 16) * 512 + r.val) : iblk m c 4 t (ix2 r j) = val_main_v33 (F := Ideal) (argXs m c) (ix2 R j) := by
  rw [← V_xs]
  show V m c main_v9 ((win0_4.rect t).emb (ix2 r j)) = _
  congr 1; funext a; apply Fin.ext
  rw [Window.rect_emb_val_off, (index_sample t).2.1]
  fin_cases a
  · exact hR.symm
  · show 0 * 2048 + j.val = j.val
    omega
theorem block_ps (j : Fin 256) (R : Fin 1024) (hR : R.val = (t.val - 16) * 512 + r.val) : iblk m c 5 t (ix2 r j) = val_main_v35 (F := Ideal) (argPs m c) (ix2 R j) := by
  rw [← V_ps]
  show V m c main_v13 ((win0_5.rect t).emb (ix2 r j)) = _
  congr 1; funext a; apply Fin.ext
  rw [Window.rect_emb_val_off, (index_sample t).2.2.1]
  fin_cases a
  · exact hR.symm
  · show 0 * 256 + j.val = j.val
    omega

/-- The weights' windows hold the whole arrays. -/
theorem block_w (j k : Fin 2048) : iblk m c 6 t (ix2 j k) = argW m c (ix3 0 j k) := by
  rw [← V_w]
  show V m c main_v1 ((win0_6.rect t).emb (ix2 j k)) = V m c main_v1 (ix2 j k)
  congr 1; funext a; apply Fin.ext
  rw [Window.rect_emb_val_off]
  fin_cases a
  · show 0 * 2048 + j.val = j.val
    omega
  · show 0 * 2048 + k.val = k.val
    omega
theorem block_g (k : Fin 2048) : iblk m c 7 t (ix2 0 k) = argG m c (ix2 0 k) := by
  rw [← V_g]
  show V m c main_v3 ((win0_7.rect t).emb (ix2 0 k)) = V m c main_v3 (ix2 0 k)
  congr 1; funext a; apply Fin.ext
  rw [Window.rect_emb_val_off]
  fin_cases a
  · show 0 * 1 + (0 : Fin 1).val = (0 : Fin 1).val
    omega
  · show 0 * 2048 + k.val = k.val
    omega
theorem block_wg (j k : Fin 2048) : iblk m c 8 t (ix2 j k) = argWg m c (ix3 0 j k) := by
  rw [← V_wg]
  show V m c main_v5 ((win0_8.rect t).emb (ix2 j k)) = V m c main_v5 (ix2 j k)
  congr 1; funext a; apply Fin.ext
  rw [Window.rect_emb_val_off]
  fin_cases a
  · show 0 * 2048 + j.val = j.val
    omega
  · show 0 * 2048 + k.val = k.val
    omega
theorem block_we (j : Fin 256) (k : Fin 2048) : iblk m c 9 t (ix2 j k) = argWe m c (ix3 0 j k) := by
  rw [← V_we]
  show V m c main_v7 ((win0_9.rect t).emb (ix2 j k)) = V m c main_v7 (ix2 j k)
  congr 1; funext a; apply Fin.ext
  rw [Window.rect_emb_val_off]
  fin_cases a
  · show 0 * 256 + j.val = j.val
    omega
  · show 0 * 2048 + k.val = k.val
    omega

/-! ## The rows a point computes -/

/-- A prompt point computes the reference's prompt rows, -/
theorem rowsAt_prompt (h : t.val < 16) (k : Fin 2048) (R : Fin 8192) (hR : R.val = t.val * 512 + r.val) :
    rowsAt m c t (ix2 r k) = val_main_v32 (F := Ideal) (argM m c) (argX m c) (argP m c) (argW m c) (argG m c) (argWg m c) (argWe m c) (ix2 R k) := by
  have hl : ¬ late (grid0.coords t) = 1#1 := fun e => absurd ((late_iff t).mp e) (by omega)
  have hR' : R.val = min t.val 15 * 512 + r.val := by rw [hR, Nat.min_eq_left (by omega)]
  have e3 : k0_pay3 (F := Ideal) (grid0.coords t) (iblk m c 3 t) (iblk m c 0 t) = iblk m c 0 t := if_neg hl
  have e4 : k0_pay4 (F := Ideal) (grid0.coords t) (iblk m c 4 t) (iblk m c 1 t) = iblk m c 1 t := (if_neg hl).trans (shapeCast_self _ _)
  have e5 : k0_pay5 (F := Ideal) (grid0.coords t) (iblk m c 5 t) (iblk m c 2 t) = iblk m c 2 t := (if_neg hl).trans (shapeCast_self _ _)
  unfold rowsAt rows
  rw [e3, e4, e5]
  refine (kernel_apply _ _ _ _ _ _ _ r k).trans (Eq.trans ?_ (reference_prompt _ _ _ _ _ _ _ R k).symm)
  exact result_congr r R k (fun j => block_m m c t r j R hR') (fun j => block_x m c t r j R hR') (fun j => block_p m c t r j R hR')
    (block_w m c t) (block_g m c t) (block_wg m c t) (block_we m c t)

/-- and a sample point the sample rows. -/
theorem rowsAt_sample (h : 16 ≤ t.val) (k : Fin 2048) (R : Fin 1024) (hR : R.val = (t.val - 16) * 512 + r.val) :
    rowsAt m c t (ix2 r k) = val_main_v61 (F := Ideal) (argMs m c) (argXs m c) (argPs m c) (argW m c) (argG m c) (argWg m c) (argWe m c) (ix2 R k) := by
  have hl : late (grid0.coords t) = 1#1 := (late_iff t).mpr h
  have e3 : k0_pay3 (F := Ideal) (grid0.coords t) (iblk m c 3 t) (iblk m c 0 t) = iblk m c 3 t := if_pos hl
  have e4 : k0_pay4 (F := Ideal) (grid0.coords t) (iblk m c 4 t) (iblk m c 1 t) = iblk m c 4 t := (if_pos hl).trans (shapeCast_self _ _)
  have e5 : k0_pay5 (F := Ideal) (grid0.coords t) (iblk m c 5 t) (iblk m c 2 t) = iblk m c 5 t := (if_pos hl).trans (shapeCast_self _ _)
  unfold rowsAt rows
  rw [e3, e4, e5]
  refine (kernel_apply _ _ _ _ _ _ _ r k).trans (Eq.trans ?_ (reference_sample _ _ _ _ _ _ _ R k).symm)
  exact result_congr r R k (fun j => block_ms m c t r j R hR) (fun j => block_xs m c t r j R hR) (fun j => block_ps m c t r j R hR)
    (block_w m c t) (block_g m c t) (block_wg m c t) (block_we m c t)
end

/-! ## The result arrays -/

/-- The prompt's block after point `t` holds the rows of point `min t 15`. -/
theorem promptAfter_eq (t : Fin cfg0.N) : promptAfter m c t = rowsAt m c ⟨min t.val 15, lt_of_le_of_lt (Nat.min_le_left _ _) t.isLt⟩ := by
  unfold promptAfter
  split
  · exact congrArg (rowsAt m c) (Fin.ext (by show t.val = min t.val 15; omega))
  · exact congrArg (rowsAt m c) (Fin.ext (by show 15 = min t.val 15; omega))

theorem final_prompt : (dats m 0 c).arrAt 10 cfg0.N = val_main_v32 (F := Ideal) (argM m c) (argX m c) (argP m c) (argW m c) (argG m c) (argWg m c) (argWe m c) := by
  refine (dats m 0 c).arrAt_eq_of_covers 10 _ (by decide +kernel) fun t _ y => ?_
  blk_simp
  rw [after_10]
  obtain ⟨r, k, rfl⟩ : ∃ (r : Fin 512) (k : Fin 2048), y = ix2 r k := ⟨y 0, y 1, eq_ix2 y⟩
  have hr := r.isLt
  have e : (win0_10.blk t).view.emb (ix2 r k) = (ix2 ⟨min t.val 15 * 512 + r.val, by omega⟩ k : S8192x2048.Idx) := by
    show (win0_10.rect t).emb (ix2 r k) = _
    funext a; apply Fin.ext
    rw [Window.rect_emb_val_off, (index_prompt t).2.2.2]
    fin_cases a
    · rfl
    · show 0 * 2048 + k.val = k.val
      omega
  rw [e, promptAfter_eq]
  exact rowsAt_prompt m c _ r (by show min t.val 15 < 16; omega) k _ rfl

/-- The sample's block is written back at sample points only. -/
theorem flush_sample : ∀ t : Fin grid0.N, win0_11.flush t = true → 16 ≤ t.val := by decide +kernel

theorem final_sample : (dats m 0 c).arrAt 11 cfg0.N = val_main_v61 (F := Ideal) (argMs m c) (argXs m c) (argPs m c) (argW m c) (argG m c) (argWg m c) (argWe m c) := by
  refine (dats m 0 c).arrAt_eq_of_covers 11 _ (by decide +kernel) fun t hf y => ?_
  blk_simp
  rw [after_11]
  obtain ⟨r, k, rfl⟩ : ∃ (r : Fin 512) (k : Fin 2048), y = ix2 r k := ⟨y 0, y 1, eq_ix2 y⟩
  have hr := r.isLt
  have ht : t.val < 18 := lt_of_lt_of_eq t.isLt N_0
  have h16 : 16 ≤ t.val := flush_sample t hf
  have e : (win0_11.blk t).view.emb (ix2 r k) = (ix2 ⟨(t.val - 16) * 512 + r.val, by omega⟩ k : S1024x2048.Idx) := by
    show (win0_11.rect t).emb (ix2 r k) = _
    funext a; apply Fin.ext
    rw [Window.rect_emb_val_off, (index_sample t).2.2.2]
    fin_cases a
    · rfl
    · show 0 * 2048 + k.val = k.val
      omega
  rw [e]
  exact rowsAt_sample m c _ r h16 k _ rfl

/-- The prompt's array after the run is the exact data's, -/
theorem exact_10 {G} (h : (rdat m c).ArrAt 10 cfg0.N G) : G = (dats m 0 c).arrAt 10 cfg0.N :=
  ((dats m 0 c).toR_arrAt_iff 10 cfg0.N G).mp ((RDat.override_arrAt (rd := (dats m 0 c).toR) (w := 10) (by simp only [show loosely 10 = false from rfl]) cfg0.N G).mp h)
/-- and so is the sample's: at its write-backs nothing else was left. -/
theorem exact_11 {G} (h : (rdat m c).ArrAt 11 cfg0.N G) : G = (dats m 0 c).arrAt 11 cfg0.N := by
  obtain ⟨X, hX, hA⟩ := h.exists_exact
  exact hA (dats m 0 c).after fun u hu hf => (((dats m 0 c).toRRel_leaves (fgt := loosely) (Rl := holdsRows m c) rfl (hX u hu hf)) (flush_sample u hf)).symm

/-- The whole run, read: the two results are the reference's, the arguments are unchanged. -/
theorem values (ρ : Dev nD → PrngReg) : θ_run defs (onTc (τ := τ) (main (F := Ideal))) ⟨m, fun _ => 0, ρ⟩ (fun r => ∀ c : Dev nD,
      r.2.mem ((c.tc : Thread nD τ).loc main_v14_0) = val_main_v32 (F := Ideal) (argM m c) (argX m c) (argP m c) (argW m c) (argG m c) (argWg m c) (argWe m c)
      ∧ r.2.mem ((c.tc : Thread nD τ).loc main_v14_1) = val_main_v61 (F := Ideal) (argMs m c) (argXs m c) (argPs m c) (argW m c) (argG m c) (argWg m c) (argWe m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(exact_10 m c ((h.1.1 c).1 10)).trans (final_prompt m c), (exact_11 m c ((h.1.1 c).1 11)).trans (final_sample m c), h.2.1 c⟩)
    (θ_run_and (run m ρ) (Gen.frame m ρ))

end Cert.Output

end
-- ==== Proof.OutFrame.lean ====
/- The output projection's two programs have one text: the frame at bit patterns is the run at any floats, taken there. -/
module

public import proofs.«01_k».proof.Defs
public import proofs.«01_k».proof.Proof.Gen.Kernel2
public import proofs.«01_k».proof.Proof.OutRun

@[expose] public section

noncomputable section

namespace Cert.Output

open Idealize.ShloMosaic Idealize.SL.Sem

/-- The two programs call one body, -/
theorem bodies_same : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => rfl
/-- over one pipeline. -/
theorem defs_same : Cert.Kernel2.defs (F := Bits) = Cert.Kernel2Ideal.defs (F := Bits) :=
  congrArg (Pipeline.defs Cert.Kernel2Ideal.pcfgs) bodies_same

/-- The program at bit patterns ends with its arguments as launched and its counters at zero. -/
theorem frame_kernel : Cert.quiescent_Kernel2 (hKernel2 := Cert.Kernel2.Gen.facts) := fun m ρ _ => by
  rw [defs_same]
  exact Cert.Kernel2Ideal.Gen.frame (F := Bits) m ρ

end Cert.Output

end
-- ==== Proof.MixBlock.lean ====
/- One batch entry and head of the decoded rows' attention state: the decayed old state plus the keys against the values, as the body
   computes it for every one of the sixty-four, and read at an index. -/
module

public import proofs.«01_k».proof.Proof.Gen.Kernel4Ideal
public import proofs.«01_k».proof.Proof.Gen.Kernel4Ideal.Frame
public import Idealize.ShloMosaic.Lib.Pointwise
public import Idealize.ShloMosaic.Lib.Pipeline.ReadBack

@[expose] public section

set_option maxRecDepth 16384

noncomputable section

namespace Cert.Mix

open Idealize.ShloMosaic Idealize.ShloMosaic.TcCoe
open Cert.Kernel4Ideal Cert.Kernel4Ideal.Gen

/-- The rectangles the body cuts: the row of a batch entry's last token, a head's keys, a head's values. -/
theorem last_slice {n : ℕ} (hn : n < 16) : S128x128.Slices ![0, 8 * n + 7] S128x1 :=
  ⟨rfl, fun a => by fin_cases a <;> simp [Shape.size] <;> omega⟩
theorem key_slice {h : ℕ} (hh : h < 4) : S128x512.Slices ![0, 128 * h] S128x128 :=
  ⟨rfl, fun a => by fin_cases a <;> simp [Shape.size] <;> omega⟩
theorem value_slice {h : ℕ} (hh : h < 4) : S128x1024.Slices ![0, 256 * h] S128x256 :=
  ⟨rfl, fun a => by fin_cases a <;> simp [Shape.size] <;> omega⟩

/-- The new state of batch entry `n` and head `h`, from the running decay `b`, the decayed keys `kd`, the values `v` and the old state `x`. -/
def piece (n h : ℕ) (hn : n < 16) (hh : h < 4) (b kd : FVec Ideal S128x512 .f32) (v : FVec Ideal S128x1024 .bf16)
    (x : Vec Ideal S1x1x128x256 .f32) : FVec Ideal S1x1x128x256 .f32 :=
  shapeCast S1x1x128x256
    (addf
      (mulf
        (broadcastTo S128x256
          (shapeCast S128x1
            (extractStridedSlice S128x1 ![0, 8 * n + 7]
              (exp (transpose S128x128 [1, 0] (extractStridedSlice S128x128 ![0, 128 * h] b (key_slice hh)) transposes_S128x128_p1_0_S128x128))
              (last_slice hn))
            shapeCasts_S128x1_S128x1)
          broadcasts_S128x1_S128x256)
        (shapeCast S128x256 x shapeCasts_S1x1x128x256_S128x256))
      (matmul dot_S128x128_S128x256_S128x256_1_0_0_1_n_n none
        (truncf .bf16
          (select (cmpi .eq k0_pay24 (broadcast S128x128 (BitVec.ofNat 32 n)))
            (transpose S128x128 [1, 0] (extractStridedSlice S128x128 ![0, 128 * h] kd (key_slice hh)) transposes_S128x128_p1_0_S128x128)
            (broadcast S128x128 (Scalar.ofBits .f32 0x00000000#32)))
          bitsLt_bf16_f32)
        (extractStridedSlice S128x256 ![0, 256 * h] v (value_slice hh)) (constant S128x256 .f32 0x00000000#32)))
    shapeCasts_S128x256_S1x1x128x256

/-- The word holding a row's batch entry equals the word of `n` just when the row is one of the entry's eight. -/
theorem entry_word {α : Type} (s : Fin 128) (n : ℕ) (hn : n < 16) (x y : α) :
    Scalar.select (IntOp.cmpi .eq (IntOp.shrsi .vector (BitVec.ofNat 32 s.val) 3#32) (BitVec.ofNat 32 n)) x y = if s.val / 8 = n then x else y := by
  have h : ∀ (s : Fin 128) (n : Fin 16), (IntOp.cmpi .eq (IntOp.shrsi .vector (BitVec.ofNat 32 s.val) 3#32) (BitVec.ofNat 32 n.val)) = if s.val / 8 = n.val then 1#1 else 0#1 := by
    decide +kernel
  rw [h s ⟨n, hn⟩]
  by_cases e : s.val / 8 = n
  · rw [if_pos e, if_pos e]; rfl
  · rw [if_neg e, if_neg e]; rfl

/-- The new state of entry `n` and head `h` at a key `d` and a value `e`. -/
def stateAt (b kd : FVec Ideal S128x512 .f32) (v : FVec Ideal S128x1024 .bf16) (x : Vec Ideal S16x4x128x256 .f32)
    (n : Fin 16) (h : Fin 4) (d : Fin 128) (e : Fin 256) : EReal :=
  Ideal.exp (b (ix2 ⟨8 * n.val + 7, by omega⟩ ⟨128 * h.val + d.val, by omega⟩)) * x (ix4 n h d e)
    + ∑ s : Fin 128, if s.val / 8 = n.val then kd (ix2 s ⟨128 * h.val + d.val, by omega⟩) * v (ix2 s ⟨256 * h.val + e.val, by omega⟩) else 0

/-- The block of states. -/
def stateOf (b kd : FVec Ideal S128x512 .f32) (v : FVec Ideal S128x1024 .bf16) (x : Vec Ideal S16x4x128x256 .f32) :
    S16x4x128x256.Idx → EReal := fun y => stateAt b kd v x (y 0) (y 1) (y 2) (y 3)

/-- A piece, read at a key `d` and a value `e`. -/
theorem piece_apply (n h : ℕ) (hn : n < 16) (hh : h < 4) (b kd : FVec Ideal S128x512 .f32) (v : FVec Ideal S128x1024 .bf16)
    (x : Vec Ideal S1x1x128x256 .f32) (d : Fin 128) (e : Fin 256) :
    piece n h hn hh b kd v x (ix4 0 0 d e) =
      Ideal.exp (b (ix2 ⟨8 * n + 7, by omega⟩ ⟨128 * h + d.val, by omega⟩)) * x (ix4 0 0 d e)
        + ∑ s : Fin 128, if s.val / 8 = n then kd (ix2 s ⟨128 * h + d.val, by omega⟩) * v (ix2 s ⟨256 * h + e.val, by omega⟩) else 0 := by
  unfold piece
  pointwise [k0_pay24]
  simp only [entry_word _ n hn]

/-- A piece is its part of the block of states. -/
theorem piece_state (n h : ℕ) (hn : n < 16) (hh : h < 4) (b kd : FVec Ideal S128x512 .f32) (v : FVec Ideal S128x1024 .bf16)
    (x : Vec Ideal S16x4x128x256 .f32) (inb : ∀ a, (![n, h, 0, 0] : Fin 4 → ℕ) a + S1x1x128x256.size a ≤ S16x4x128x256.size a)
    (j : S1x1x128x256.Idx) :
    piece n h hn hh b kd v (View.ld x (Rect.unit (s := S16x4x128x256) ![n, h, 0, 0] S1x1x128x256.size inb)) j
      = stateOf b kd v x ((Rect.unit (s := S16x4x128x256) ![n, h, 0, 0] S1x1x128x256.size inb).emb j) := by
  have hj : j = ix4 0 0 (j 2) (j 3) := by
    funext a
    fin_cases a
    · exact Subsingleton.elim (α := Fin 1) _ _
    · exact Subsingleton.elim (α := Fin 1) _ _
    · rfl
    · rfl
  have he : (Rect.unit (s := S16x4x128x256) ![n, h, 0, 0] S1x1x128x256.size inb).emb j = ix4 (⟨n, hn⟩ : Fin 16) (⟨h, hh⟩ : Fin 4) (j 2) (j 3) := by
    rw [hj]
    funext a
    apply Fin.ext
    fin_cases a
    · rfl
    · rfl
    · show 0 + 1 * (j 2).val = (j 2).val
      omega
    · show 0 + 1 * (j 3).val = (j 3).val
      omega
  rw [he]
  refine (congrArg (piece n h hn hh b kd v _) hj).trans ((piece_apply n h hn hh b kd v _ (j 2) (j 3)).trans ?_)
  have hx : View.ld x (Rect.unit (s := S16x4x128x256) ![n, h, 0, 0] S1x1x128x256.size inb) (ix4 0 0 (j 2) (j 3))
      = x (ix4 (⟨n, hn⟩ : Fin 16) (⟨h, hh⟩ : Fin 4) (j 2) (j 3)) :=
    (congrArg (View.ld x (Rect.unit (s := S16x4x128x256) ![n, h, 0, 0] S1x1x128x256.size inb)) hj.symm).trans (congrArg x he)
  exact congrArg (fun z => _ * z + _) hx

/-- What the body leaves in the block of states. -/
theorem out_state (x0 : Vec Ideal S128x10240 .bf16) (x1 : Vec Ideal S128x128 .bf16) (x2 : Vec Ideal S16x4x128x256 .f32) (x3 : Vec Ideal S1x1024 .f32)
    (x4 : Vec Ideal S4x128x128 .f32) (x5 : Vec Ideal S128x4 .f32) (x6 : Vec Ideal S128x512 .bf16) (x7 : Vec Ideal S1x512 .f32)
    (x8 : Vec Ideal S1x1024 .f32) (x9 x10 : Vec Ideal S1024x2048 .bf16) :
    out0_13 x0 x1 x2 x3 x4 x5 x6 x7 x8 x9 x10
      = stateOf (k0_pay295 x0 x1 x2 x3 x4 x5 x6 x7 x8 x9 x10) (k0_pay309 x0 x1 x2 x3 x4 x5 x6 x7 x8 x9 x10) (View.ld x0 r0_5) x2 := by
  funext y
  unfold out0_13
  refine View.canon_apply_of_pieces _ _ (View.PiecesOf.mem ?_) y (cover0_13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  repeat' apply And.intro
  all_goals first | exact trivial | exact fun j => Eq.trans (by rfl) (piece_state _ _ (by decide) (by decide) _ _ _ _ _ j)
-- ==== Proof.MixDecay.lean ====
/- The decay of the decoded rows' attention: the logarithm each token and key contributes, its running sum over the entry's tokens, and
   the keys decayed to the entry's last token, as the body computes them. -/
module

public import proofs.«01_k».proof.Proof.MixBlock
public import proofs.«01_k».proof.Proof.Whole

@[expose] public section

set_option maxRecDepth 16384

noncomputable section

namespace Cert.Mix

open Idealize.ShloMosaic Idealize.ShloMosaic.TcCoe
open Cert.Kernel4Ideal Cert.Kernel4Ideal.Gen

/-- The logarithm one token and key contributes, from its gate's argument `p`. -/
def decayAt (p : EReal) : EReal :=
  (min p 0 - Ideal.log (1 + Ideal.exp (0 - max p (-p)))) * Ideal.ofBits FTy.f32 1031798784#32

/-- The constant is a sixteenth. -/
theorem sixteenth : Ideal.ofBits FTy.f32 1031798784#32 = ((1 / 16 : ℝ) : EReal) := by
  simp [Ideal.ofBits, Ideal.ieee, -EReal.coe_mul]; norm_num

/-- Neither an exponential nor the logarithm of one plus it is negative. -/
theorem exp_nonneg (x : EReal) : 0 ≤ Ideal.exp x := by
  induction x using EReal.rec with
  | bot => exact le_rfl
  | top => exact le_top
  | coe r => exact EReal.coe_nonneg.2 (Real.exp_pos r).le

theorem log_nonneg (q : EReal) (hq : 0 ≤ q) : 0 ≤ Ideal.log (1 + q) := by
  induction q using EReal.rec with
  | bot => exact absurd hq (by simp)
  | top => exact le_top
  | coe r =>
    have hr : 0 ≤ r := EReal.coe_nonneg.1 hq
    show 0 ≤ Ideal.log ((1 + r : ℝ) : EReal)
    show (0 : EReal) ≤ if 1 + r ≤ 0 then ⊥ else (Real.log (1 + r) : EReal)
    rw [if_neg (by linarith)]
    exact EReal.coe_nonneg.2 (Real.log_nonneg (by linarith))

/-- It is never the upper infinity. -/
theorem decayAt_ne_top (p : EReal) : decayAt p ≠ ⊤ := by
  have h : min p 0 - Ideal.log (1 + Ideal.exp (0 - max p (-p))) ≤ 0 := by
    have := EReal.sub_le_sub (min_le_right p 0) (log_nonneg _ (exp_nonneg (0 - max p (-p))))
    simpa using this
  unfold decayAt
  rw [sixteenth]
  generalize min p 0 - Ideal.log (1 + Ideal.exp (0 - max p (-p))) = z at h
  induction z using EReal.rec with
  | bot => rw [EReal.bot_mul_coe_of_pos (by norm_num)]; exact bot_ne_top
  | top => exact absurd h (by simp)
  | coe r => rw [← EReal.coe_mul]; exact EReal.coe_ne_top _

/-- A sum over the rows restricted to one entry is a sum over its eight tokens. -/
theorem entry_sum (f : Fin 128 → EReal) (n : Fin 16) :
    (∑ s : Fin 128, if s.val / 8 = n.val then f s else 0) = ∑ i : Fin 8, f ⟨8 * n.val + i.val, by omega⟩ := by
  rw [← Finset.sum_filter]
  refine Finset.sum_nbij' (fun s => ⟨s.val % 8, by omega⟩) (fun i => ⟨8 * n.val + i.val, by omega⟩) ?_ ?_ ?_ ?_ ?_
  · intro s _; exact Finset.mem_univ _
  · intro i _
    rw [Finset.mem_filter]
    refine ⟨Finset.mem_univ _, ?_⟩
    show (8 * n.val + i.val) / 8 = n.val
    omega
  · intro s hs
    have := (Finset.mem_filter.1 hs).2
    apply Fin.ext
    show 8 * n.val + s.val % 8 = s.val
    omega
  · intro i _
    apply Fin.ext
    show (8 * n.val + i.val) % 8 = i.val
    omega
  · intro s hs
    have := (Finset.mem_filter.1 hs).2
    congr 1
    apply Fin.ext
    show s.val = 8 * n.val + s.val % 8
    omega

/-- The words comparing two rows say that they belong to one entry, the second not after the first; -/
theorem same_entry_word {α : Type} (r s : Fin 128) (x y : α) :
    Scalar.select
      (IntOp.andi (IntOp.cmpi .eq (IntOp.shrsi .vector (BitVec.ofNat 32 r.val) 3#32) (IntOp.shrsi .vector (BitVec.ofNat 32 s.val) 3#32))
        (IntOp.cmpi .sle (BitVec.ofNat 32 s.val) (BitVec.ofNat 32 r.val))) x y
      = if s.val / 8 = r.val / 8 ∧ s.val ≤ r.val then x else y := by
  have h : ∀ r s : Fin 128,
      IntOp.andi (IntOp.cmpi .eq (IntOp.shrsi .vector (BitVec.ofNat 32 r.val) 3#32) (IntOp.shrsi .vector (BitVec.ofNat 32 s.val) 3#32))
        (IntOp.cmpi .sle (BitVec.ofNat 32 s.val) (BitVec.ofNat 32 r.val)) = if s.val / 8 = r.val / 8 ∧ s.val ≤ r.val then 1#1 else 0#1 := by
    decide +kernel
  rw [h]
  by_cases e : s.val / 8 = r.val / 8 ∧ s.val ≤ r.val
  · rw [if_pos e, if_pos e]; rfl
  · rw [if_neg e, if_neg e]; rfl

/-- the word comparing a lane with sixteen, that it is one of the first sixteen. -/
theorem lane_word {α : Type} (l : Fin 128) (x y : α) :
    Scalar.select (IntOp.cmpi .slt (BitVec.ofNat 32 l.val) 16#32) x y = if l.val < 16 then x else y := by
  have h : ∀ l : Fin 128, IntOp.cmpi .slt (BitVec.ofNat 32 l.val) 16#32 = if l.val < 16 then 1#1 else 0#1 := by decide +kernel
  rw [h]
  by_cases e : l.val < 16
  · rw [if_pos e, if_pos e]; rfl
  · rw [if_neg e, if_neg e]; rfl

/-- A number that is not the upper infinity, plus what its rounding lost: nothing. -/
theorem add_sub_self (x : EReal) (hx : x ≠ ⊤) : x + (x - x) = x := by
  induction x using EReal.rec with
  | bot => rfl
  | top => exact absurd rfl hx
  | coe r => rw [← EReal.coe_sub, sub_self]; simp

/-- The running sum of an entry's eight logarithms up to token `i`. -/
def runAt (D : Fin 8 → EReal) (i : Fin 8) : EReal := ∑ k : Fin 8, if k.val ≤ i.val then D k else 0

/-- A gate's argument: sixteen lanes against their weights, and the bias. -/
def gateAt (x1 : Vec Ideal S128x128 .bf16) (x6 : Vec Ideal S128x512 .bf16) (x7 : Vec Ideal S1x512 .f32) (r : Fin 128) (j : Fin 512) : EReal :=
  (∑ l : Fin 128, if l.val < 16 then x1 (ix2 r l) * x6 (ix2 l j) else 0) + x7 (ix2 0 j)

section
variable (x0 : Vec Ideal S128x10240 .bf16) (x1 : Vec Ideal S128x128 .bf16) (x2 : Vec Ideal S16x4x128x256 .f32) (x3 : Vec Ideal S1x1024 .f32)
    (x4 : Vec Ideal S4x128x128 .f32) (x5 : Vec Ideal S128x4 .f32) (x6 : Vec Ideal S128x512 .bf16) (x7 : Vec Ideal S1x512 .f32)
    (x8 : Vec Ideal S1x1024 .f32) (x9 x10 : Vec Ideal S1024x2048 .bf16)

/-- The logarithms the body holds; -/
theorem log_kernel (r : Fin 128) (j : Fin 512) :
    k0_pay290 x0 x1 x2 x3 x4 x5 x6 x7 x8 x9 x10 (ix2 r j) = decayAt (gateAt x1 x6 x7 r j) := by
  pointwise [k0_pay290, k0_pay3]
  simp only [lane_word]
  rfl

/-- their running sum, over the entry's tokens up to the row's; -/
theorem running_kernel (r : Fin 128) (j : Fin 512) :
    k0_pay295 x0 x1 x2 x3 x4 x5 x6 x7 x8 x9 x10 (ix2 r j)
      = ∑ s : Fin 128, if s.val / 8 = r.val / 8 ∧ s.val ≤ r.val then decayAt (gateAt x1 x6 x7 s j) else 0 := by
  have hL : ∀ s, k0_pay290 x0 x1 x2 x3 x4 x5 x6 x7 x8 x9 x10 (ix2 s j) = decayAt (gateAt x1 x6 x7 s j) :=
    fun s => log_kernel x0 x1 x2 x3 x4 x5 x6 x7 x8 x9 x10 s j
  unfold k0_pay295
  generalize k0_pay290 x0 x1 x2 x3 x4 x5 x6 x7 x8 x9 x10 = L at hL
  pointwise [k0_pay9, k0_pay8, k0_pay288, k0_pay289, k0_pay292, k0_pay293, k0_pay6, k0_pay7]
  simp only [same_entry_word, hL]
  rw [← Finset.sum_add_distrib]
  refine Finset.sum_congr rfl fun s _ => ?_
  split_ifs
  · exact add_sub_self _ (decayAt_ne_top _)
  · exact add_zero 0

/-- A choice equals what both its branches equal. -/
theorem cases_eq {α : Type} {p : Prop} [Decidable p] {f : p → α} {g : ¬p → α} {z : α} (hf : ∀ h, f h = z) (hg : ∀ h, g h = z) : dite p f g = z := by
  by_cases h : p
  · rw [dif_pos h]; exact hf h
  · rw [dif_neg h]; exact hg h

set_option maxHeartbeats 4000000 in
/-- the keys, decayed to the last token of their entry. -/
theorem keys_kernel (r : Fin 128) (j : Fin 512) :
    k0_pay309 x0 x1 x2 x3 x4 x5 x6 x7 x8 x9 x10 (ix2 r j)
      = x0 (ix2 r ⟨3584 + j.val, by omega⟩)
        * Ideal.exp (k0_pay295 x0 x1 x2 x3 x4 x5 x6 x7 x8 x9 x10 (ix2 ⟨8 * (r.val / 8) + 7, by omega⟩ j)
            - k0_pay295 x0 x1 x2 x3 x4 x5 x6 x7 x8 x9 x10 (ix2 r j)) := by
  have hb : k0_pay9 (k0_pay290 x0 x1 x2 x3 x4 x5 x6 x7 x8 x9 x10) (k0_pay288 x0 x1 x2 x3 x4 x5 x6 x7 x8 x9 x10)
      (k0_pay289 x0 x1 x2 x3 x4 x5 x6 x7 x8 x9 x10) (k0_pay292 x0 x1 x2 x3 x4 x5 x6 x7 x8 x9 x10) (k0_pay293 x0 x1 x2 x3 x4 x5 x6 x7 x8 x9 x10)
      = k0_pay295 x0 x1 x2 x3 x4 x5 x6 x7 x8 x9 x10 := rfl
  unfold k0_pay309 k0_pay298 k0_pay299 k0_pay300 k0_pay301 k0_pay302 k0_pay303 k0_pay304 k0_pay305 k0_pay306 k0_pay307 k0_pay308
    k0_pay12 k0_pay13 k0_pay14 k0_pay15 k0_pay16 k0_pay17 k0_pay18 k0_pay19 k0_pay20 k0_pay21 k0_pay22
  dsimp only
  rw [hb]
  generalize k0_pay295 x0 x1 x2 x3 x4 x5 x6 x7 x8 x9 x10 = b
  have hrow : ∀ (i : Fin 128), i.val = 8 * (r.val / 8) + 7 → b (ix2 i j) = b (ix2 ⟨8 * (r.val / 8) + 7, by omega⟩ j) :=
    fun i hi => congrArg (fun i => b (ix2 i j)) (Fin.ext hi)
  pointwise [k0_pay23, k0_pay291, k0_pay5]
  refine congrArg (fun z => _ * Ideal.exp (z - _)) ?_
  have hr := r.isLt
  repeat' refine cases_eq (fun _ => ?_) (fun _ => ?_)
  all_goals
    refine hrow _ ?_
    first | omega | (simp; done) | (simp; omega)

/-- Entry by entry: the running sum at token `i` of entry `n`, -/
theorem running_entry (n : Fin 16) (i : Fin 8) (j : Fin 512) :
    k0_pay295 x0 x1 x2 x3 x4 x5 x6 x7 x8 x9 x10 (ix2 ⟨8 * n.val + i.val, by omega⟩ j)
      = runAt (fun k => decayAt (gateAt x1 x6 x7 ⟨8 * n.val + k.val, by omega⟩ j)) i := by
  rw [running_kernel]
  refine Eq.trans (Finset.sum_congr rfl fun s _ => ?_)
    (entry_sum (fun s => if s.val ≤ 8 * n.val + i.val then decayAt (gateAt x1 x6 x7 s j) else 0) n) |>.trans ?_
  · show (if s.val / 8 = (8 * n.val + i.val) / 8 ∧ s.val ≤ 8 * n.val + i.val then _ else _) = _
    rw [show (8 * n.val + i.val) / 8 = n.val by omega, ite_and]
  · refine Finset.sum_congr rfl fun k _ => ?_
    show (if 8 * n.val + k.val ≤ 8 * n.val + i.val then _ else _) = _
    simp only [Nat.add_le_add_iff_left]

/-- and the new state. -/
theorem state_entry (n : Fin 16) (h : Fin 4) (d : Fin 128) (e : Fin 256) :
    stateAt (k0_pay295 x0 x1 x2 x3 x4 x5 x6 x7 x8 x9 x10) (k0_pay309 x0 x1 x2 x3 x4 x5 x6 x7 x8 x9 x10) (View.ld x0 r0_5) x2 n h d e
      = (fun D : Fin 8 → EReal => Ideal.exp (runAt D 7) * x2 (ix4 n h d e)
          + ∑ i : Fin 8, x0 (ix2 ⟨8 * n.val + i.val, by omega⟩ ⟨3584 + (128 * h.val + d.val), by omega⟩) * Ideal.exp (runAt D 7 - runAt D i)
            * x0 (ix2 ⟨8 * n.val + i.val, by omega⟩ ⟨4096 + (256 * h.val + e.val), by omega⟩))
        (fun k => decayAt (gateAt x1 x6 x7 ⟨8 * n.val + k.val, by omega⟩ ⟨128 * h.val + d.val, by omega⟩)) := by
  have hl := running_entry x0 x1 x2 x3 x4 x5 x6 x7 x8 x9 x10 n 7 ⟨128 * h.val + d.val, by omega⟩
  unfold stateAt
  dsimp only
  refine congrArg₂ (fun a b => Ideal.exp a * x2 (ix4 n h d e) + b) hl ?_
  refine (entry_sum (fun s => k0_pay309 x0 x1 x2 x3 x4 x5 x6 x7 x8 x9 x10 (ix2 s ⟨128 * h.val + d.val, by omega⟩) * View.ld x0 r0_5 (ix2 s ⟨256 * h.val + e.val, by omega⟩)) n).trans ?_
  refine Finset.sum_congr rfl fun i _ => ?_
  rw [keys_kernel, running_entry]
  have hi : (⟨8 * ((8 * n.val + i.val) / 8) + 7, by omega⟩ : Fin 128) = ⟨8 * n.val + (7 : Fin 8).val, by show 8 * n.val + 7 < 128; omega⟩ := by
    apply Fin.ext
    show 8 * ((8 * n.val + i.val) / 8) + 7 = 8 * n.val + 7
    omega
  rw [show (ix2 ⟨8 * ((8 * n.val + i.val) / 8) + 7, by omega⟩ ⟨128 * h.val + d.val, by omega⟩ : S128x512.Idx)
    = ix2 ⟨8 * n.val + (7 : Fin 8).val, by show 8 * n.val + 7 < 128; omega⟩ ⟨128 * h.val + d.val, by omega⟩ from congrArg (fun a => ix2 a _) hi, running_entry]
  pointwise []
end

/-- The gate rows' normalisation at an index. -/
def rowAt {n : ℕ} (x : FVec Ideal (⟨2, ![n, 10240]⟩ : Shape) .bf16) (g : FVec Ideal S1x1024 .f32) (r : Fin n) (k : Fin 1024) : EReal :=
  x (ix2 r ⟨1024 + k.val, by omega⟩)
      * Ideal.rsqrt (Ideal.div (∑ l : Fin 1024, x (ix2 r ⟨1024 + l.val, by omega⟩) * x (ix2 r ⟨1024 + l.val, by omega⟩)) (Ideal.ofBits FTy.f32 1149239296#32)
          + Ideal.ofBits FTy.f32 897988541#32)
    * g (ix2 0 k)

/-- What the body leaves of them. -/
theorem out_rows (x0 : Vec Ideal S128x10240 .bf16) (x1 : Vec Ideal S128x128 .bf16) (x2 : Vec Ideal S16x4x128x256 .f32) (x3 : Vec Ideal S1x1024 .f32)
    (x4 : Vec Ideal S4x128x128 .f32) (x5 : Vec Ideal S128x4 .f32) (x6 : Vec Ideal S128x512 .bf16) (x7 : Vec Ideal S1x512 .f32)
    (x8 : Vec Ideal S1x1024 .f32) (x9 x10 : Vec Ideal S1024x2048 .bf16) (r : Fin 128) (k : Fin 1024) :
    out0_12 x0 x1 x2 x3 x4 x5 x6 x7 x8 x9 x10 (ix2 r k) = rowAt x0 x3 r k := by
  unfold_out out0_12
  rw [View.canon_unit_zero Cert.Whole.zero₂]
  pointwise [k0_pay275, k0_pay274, k0_pay273]
  rfl

end Cert.Mix

end
-- ==== Proof.MixReference.lean ====
/- The reference's gates, decays and states, read at an index. -/
module

public import proofs.«01_k».proof.Proof.MixDecay
public import proofs.«01_k».proof.Proof.Gen.Reference4Ideal.Read
public import Idealize.ShloMosaic.Lib.Pointwise

@[expose] public section

set_option maxRecDepth 16384

noncomputable section

namespace Cert.Mix

open Idealize.ShloMosaic Idealize.ShloMosaic.TcCoe
open Cert.Reference4Ideal Cert.Reference4Ideal.Read

variable (x0 : FVec Ideal S1024x10240 .bf16) (x1 : FVec Ideal S1024x128 .bf16) (x2 : FVec Ideal S1x128x4x128x256 .f32)
  (x3 : FVec Ideal S1x1024 .f32) (x6 : FVec Ideal S1x16x512 .f32) (x7 : FVec Ideal S1x512 .f32)

/-- The reference's gate argument; -/
def gateRef (r : Fin 1024) (j : Fin 512) : EReal :=
  (∑ l : Fin 16, x1 (ix2 r ⟨l.val, by omega⟩) * x6 (ix3 0 l j)) + x7 (ix2 0 j)

/-- its stage; -/
theorem gate_reference (r : Fin 1024) (j : Fin 512) :
    val_main_v25 (F := Ideal) x1 x6 x7 (ix2 r j) = gateRef x1 x6 x7 r j := by
  pointwise [val_main_v25, val_main_v24, val_main_v23, val_main_v22, val_main_v21, val_main_v20, val_main_v19, val_main_v18]
  rfl

/-- the constant it divides by; -/
theorem sixteen : Ideal.ofBits FTy.f32 1098907648#32 = ((16 : ℝ) : EReal) := by
  simp [Ideal.ofBits, Ideal.ieee, -EReal.coe_mul]; norm_num

/-- its logarithm of a sigmoid, divided by sixteen, is the kernel's; -/
theorem log_same (p : EReal) :
    Ideal.div (-(max (-p) 0 + Ideal.log1p (Ideal.exp (-FloatOps.absf (F := Ideal) (φ := .f32) (-p))))) (Ideal.ofBits FTy.f32 1098907648#32) = decayAt p := by
  rw [sixteen, Ideal.div_coe (by norm_num : (16 : ℝ) ≠ 0)]
  unfold decayAt
  rw [sixteenth]
  congr 1
  have ha : FloatOps.absf (F := Ideal) (φ := .f32) (-p) = max p (-p) := by
    show max (-p) (- -p) = max p (-p)
    rw [neg_neg, max_comm]
  rw [ha, zero_sub]
  show -(max (-p) 0 + Ideal.log (1 + Ideal.exp (-max p (-p)))) = min p 0 - Ideal.log (1 + Ideal.exp (-max p (-p)))
  have hw := log_nonneg _ (exp_nonneg (-max p (-p)))
  have hz : max (-p) 0 ≠ ⊥ := ne_of_gt (lt_of_lt_of_le EReal.bot_lt_zero (le_max_right _ _))
  rw [EReal.neg_add (Or.inl hz) (Or.inr (ne_of_gt (lt_of_lt_of_le EReal.bot_lt_zero hw)))]
  congr 1
  rcases le_total p 0 with hp | hp
  · rw [max_eq_left (by simpa using EReal.neg_le_neg_iff.2 hp), neg_neg, min_eq_left hp]
  · rw [max_eq_right (by simpa using EReal.neg_le_neg_iff.2 hp), neg_zero, min_eq_right hp]

/-- so its logarithms are; -/
theorem log_reference (r : Fin 1024) (j : Fin 512) :
    val_main_v28 (F := Ideal) x1 x6 x7 (ix2 r j) = decayAt (gateRef x1 x6 x7 r j) := by
  have h := gate_reference x1 x6 x7 r j
  unfold val_main_v28 val_main_v26 val_main_call0_v1 val_main_call0_call0_v11 val_main_call0_call0_v10 val_main_call0_call0_v9 val_main_call0_call0_v8 val_main_call0_call0_v7 val_main_call0_call0_v6 val_main_call0_call0_v4 val_main_call0_call0_v3 val_main_call0_call0_v1 val_main_call0_v0
  generalize val_main_v25 (F := Ideal) x1 x6 x7 = g at h
  rw [← h]
  pointwise [val_main_v27, val_main_cst_2, val_main_call0_call0_v0, val_main_call0_call0_v2, val_main_call0_call0_v5, val_main_call0_call0_cst]
  rw [if_neg (fun h => h rfl)]
  exact log_same _

/-- their running sum, -/
theorem running_reference (b : Fin 128) (t : Fin 8) (h : Fin 4) (d : Fin 128) :
    val_main_v42 (F := Ideal) x1 x6 x7 (ix4 b t h d)
      = runAt (fun s => decayAt (gateRef x1 x6 x7 ⟨b.val * 8 + s.val, by omega⟩ ⟨h.val * 128 + d.val, by omega⟩)) t := by
  have hl := log_reference x1 x6 x7
  unfold val_main_v42 val_main_v41 val_main_call2_v2 val_main_v40 val_main_v35
  generalize val_main_v28 (F := Ideal) x1 x6 x7 = g at hl
  pointwise [val_main_cst_5, val_main_call2_v3, val_main_call2_v1, val_main_call2_v0, val_main_cst_4, val_main_v39, val_main_v38, val_main_v37, val_main_call1_v0, val_main_call1_v1, val_main_call1_v2, val_main_call1_v3, val_main_call1_v4, val_main_call1_v5, val_main_call1_c_0, val_main_call1_c, val_main_c]
  have hw : ∀ t s : Fin 8, Scalar.select (IntOp.cmpi CmpIPredicate.sge (IntOp.addi (BitVec.ofNat 32 t.val) 0#32) (BitVec.ofNat 32 s.val)) 1#1 0#1
      = if s.val ≤ t.val then 1#1 else 0#1 := by decide +kernel
  refine Finset.sum_congr rfl fun s _ => ?_
  rw [hw, hl]
  by_cases e : s.val ≤ t.val
  · rw [if_pos e, if_pos e]; rfl
  · rw [if_neg e, if_neg e]; exact Ideal.ofBits_zero_f32

/-- and the new state. -/
theorem state_reference (b : Fin 128) (h : Fin 4) (d : Fin 128) (e : Fin 256) :
    val_main_v67 (F := Ideal) x0 x1 x2 x6 x7 (ix4 b h d e)
      = (fun D : Fin 8 → EReal => Ideal.exp (runAt D 7) * x2 (ix5 0 b h d e)
          + ∑ i : Fin 8, x0 (ix2 ⟨b.val * 8 + i.val, by omega⟩ ⟨3584 + (h.val * 128 + d.val), by omega⟩) * Ideal.exp (runAt D 7 - runAt D i)
            * x0 (ix2 ⟨b.val * 8 + i.val, by omega⟩ ⟨4096 + (h.val * 256 + e.val), by omega⟩))
        (fun s => decayAt (gateRef x1 x6 x7 ⟨b.val * 8 + s.val, by omega⟩ ⟨h.val * 128 + d.val, by omega⟩)) := by
  have hr := fun t => running_reference x1 x6 x7 b t h d
  unfold val_main_v67 val_main_v66 val_main_v65 val_main_v64 val_main_v63 val_main_v62 val_main_v61 val_main_v60 val_main_v59 val_main_v58 val_main_v57 val_main_v56
  generalize val_main_v42 (F := Ideal) x1 x6 x7 = g at hr
  pointwise [val_main_v36, val_main_v34, val_main_v33, val_main_v2, val_main_v1, val_main_v0]
  simp only [hr]

/-- The normalised gate rows. -/
theorem rows_reference (r : Fin 1024) (k : Fin 1024) :
    val_main_v17 (F := Ideal) x0 x3 (ix2 r k) = rowAt x0 x3 r k := by
  pointwise [val_main_v17, val_main_v16, val_main_v15, val_main_v14, val_main_v13, val_main_v12, val_main_v11, val_main_v10, val_main_v9, val_main_v8, val_main_v7, val_main_v6, val_main_v5, val_main_v4, val_main_v3, val_main_v0, val_main_cst, val_main_cst_0, val_main_cst_1]
  rfl

end Cert.Mix

end
-- ==== Proof.MixForms.lean ====
/- What one batch entry's merged branches are, from its eight projected rows, its running decays, its old state and the weights. -/
module

public import proofs.«01_k».proof.Proof.MixDecay

@[expose] public section

set_option maxRecDepth 16384

noncomputable section

namespace Cert.Mix

open Idealize.ShloMosaic Idealize.ShloMosaic.TcCoe

section
variable (P : Fin 8 → Fin 10240 → EReal) (B : Fin 8 → Fin 512 → EReal) (S : Fin 4 → Fin 128 → Fin 256 → EReal) (G : Fin 1024 → EReal)
  (W : Fin 4 → Fin 8 → Fin 8 → EReal) (C : Fin 4 → Fin 8 → EReal) (O : Fin 4 → Fin 256 → EReal) (WA WB : Fin 1024 → Fin 2048 → EReal)

/-- A query, scaled and decayed from the entry's start; -/
def queryAt (t : Fin 8) (j : Fin 512) : EReal := P t ⟨3072 + j.val, by omega⟩ * Ideal.ofBits FTy.f32 0x3DB504F3#32 * Ideal.exp (B t j)
/-- a key, its decay undone; -/
def keyAt (s : Fin 8) (j : Fin 512) : EReal := P s ⟨3584 + j.val, by omega⟩ * Ideal.exp (-B s j)
/-- the score of token `s` for token `t`; -/
def scoreAt (h : Fin 4) (t s : Fin 8) : EReal :=
  ∑ d : Fin 128, queryAt P B t ⟨128 * h.val + d.val, by omega⟩ * keyAt P B s ⟨128 * h.val + d.val, by omega⟩
/-- the attention's value: the entry's own tokens, and the old state. -/
def headAt (t : Fin 8) (h : Fin 4) (e : Fin 256) : EReal :=
  (∑ s : Fin 8, (if s.val ≤ t.val then scoreAt P B h t s else 0) * P s ⟨4096 + (256 * h.val + e.val), by omega⟩)
    + ∑ d : Fin 128, queryAt P B t ⟨128 * h.val + d.val, by omega⟩ * S h d e
/-- A head's row, normalised. -/
def normAt (f : Fin 256 → EReal) (e : Fin 256) : EReal :=
  f e * Ideal.rsqrt (Ideal.div (∑ l, f l * f l) (Ideal.ofBits FTy.f32 0x43800000#32) + Ideal.ofBits FTy.f32 0x358637BD#32)
/-- A gate row, normalised; -/
def gainAt (t : Fin 8) (k : Fin 1024) : EReal :=
  P t ⟨1024 + k.val, by omega⟩
      * Ideal.rsqrt (Ideal.div (∑ l : Fin 1024, P t ⟨1024 + l.val, by omega⟩ * P t ⟨1024 + l.val, by omega⟩) (Ideal.ofBits FTy.f32 1149239296#32)
          + Ideal.ofBits FTy.f32 897988541#32)
    * G k
/-- the spatial gate: the entry's tokens up to `t` against their weights, and the token's bias; -/
def spatialAt (t : Fin 8) (h : Fin 4) (e : Fin 256) : EReal :=
  (∑ s : Fin 8, (if s.val ≤ t.val then W h t s else 0) * gainAt P G s ⟨256 * h.val + e.val, by omega⟩) + C h t
/-- A number times its sigmoid. -/
def siluAt (x : EReal) : EReal := x * Ideal.logistic x
/-- The first branch, -/
def firstAt (t : Fin 8) (c : Fin 1024) : EReal :=
  P t ⟨c.val, by omega⟩ * spatialAt P G W C t ⟨c.val / 256, by omega⟩ ⟨c.val % 256, by omega⟩ * siluAt (P t ⟨2048 + c.val, by omega⟩)
/-- the second, -/
def secondAt (t : Fin 8) (c : Fin 1024) : EReal :=
  normAt (headAt P B S t ⟨c.val / 256, by omega⟩) ⟨c.val % 256, by omega⟩ * O ⟨c.val / 256, by omega⟩ ⟨c.val % 256, by omega⟩
    * siluAt (P t ⟨5120 + c.val, by omega⟩)
/-- and the two merged. -/
def mergeAt (t : Fin 8) (k : Fin 2048) : EReal :=
  Ideal.logistic (P t ⟨6144 + k.val, by omega⟩) * (∑ c, firstAt P G W C t c * WA c k)
    + Ideal.logistic (P t ⟨8192 + k.val, by omega⟩) * ∑ c, secondAt P B S O t c * WB c k
end

end Cert.Mix

end
-- ==== Proof.MixMergeReference.lean ====
/- The reference's merged branches of the decoded rows, read entry by entry. -/
module

public import proofs.«01_k».proof.Proof.MixReference
public import proofs.«01_k».proof.Proof.MixForms

@[expose] public section

set_option maxRecDepth 16384

noncomputable section

namespace Cert.Mix

open Idealize.ShloMosaic Idealize.ShloMosaic.TcCoe
open Cert.Reference4Ideal Cert.Reference4Ideal.Read

variable (x0 : FVec Ideal S1024x10240 .bf16) (x1 : FVec Ideal S1024x128 .bf16) (x2 : FVec Ideal S1x128x4x128x256 .f32)
  (x3 : FVec Ideal S1x1024 .f32) (x4 : FVec Ideal S1x4x128x128 .f32) (x5 : FVec Ideal S1x4x128 .f32) (x6 : FVec Ideal S1x16x512 .f32) (x7 : FVec Ideal S1x512 .f32)
  (x8 : FVec Ideal S1x4x256 .f32) (x9 x10 : FVec Ideal S1024x2048 .bf16)

/-- An entry's projected rows, -/
def rowsOf (b : Fin 128) (t : Fin 8) (k : Fin 10240) : EReal := x0 (ix2 ⟨b.val * 8 + t.val, by omega⟩ k)
/-- its running decays. -/
def decaysOf (b : Fin 128) (t : Fin 8) (j : Fin 512) : EReal := runAt (fun s => decayAt (gateRef x1 x6 x7 ⟨b.val * 8 + s.val, by omega⟩ j)) t

/-- The word that compares two tokens. -/
theorem causal_word {α : Type} (t s : Fin 8) (x y : α) :
    Scalar.select (Scalar.select (IntOp.cmpi CmpIPredicate.sge (IntOp.addi (BitVec.ofNat 32 t.val) 0#32) (BitVec.ofNat 32 s.val)) 1#1 0#1) x y
      = if s.val ≤ t.val then x else y := by
  have h : ∀ t s : Fin 8, Scalar.select (IntOp.cmpi CmpIPredicate.sge (IntOp.addi (BitVec.ofNat 32 t.val) 0#32) (BitVec.ofNat 32 s.val)) 1#1 0#1
      = if s.val ≤ t.val then 1#1 else 0#1 := by decide +kernel
  rw [h]
  by_cases e : s.val ≤ t.val
  · rw [if_pos e, if_pos e]; rfl
  · rw [if_neg e, if_neg e]; rfl

/-- The running decay, in the entry's words; -/
theorem decays_reference (b : Fin 128) (t : Fin 8) (h : Fin 4) (d : Fin 128) :
    val_main_v42 (F := Ideal) x1 x6 x7 (ix4 b t h d) = decaysOf x1 x6 x7 b t ⟨128 * h.val + d.val, by omega⟩ := by
  rw [running_reference]
  unfold decaysOf
  rw [show (⟨h.val * 128 + d.val, by omega⟩ : Fin 512) = ⟨128 * h.val + d.val, by omega⟩ from Fin.ext (by show h.val * 128 + d.val = 128 * h.val + d.val; omega)]

/-- the queries; -/
theorem query_reference (b : Fin 128) (t : Fin 8) (h : Fin 4) (d : Fin 128) :
    val_main_v44 (F := Ideal) x0 x1 x6 x7 (ix4 b t h d) = queryAt (rowsOf x0 b) (decaysOf x1 x6 x7 b) t ⟨128 * h.val + d.val, by omega⟩ := by
  have hd := decays_reference x1 x6 x7 b t h d
  unfold val_main_v44 val_main_v43 queryAt rowsOf
  generalize val_main_v42 (F := Ideal) x1 x6 x7 = g at hd
  rw [← hd]
  pointwise [val_main_v32, val_main_v31, val_main_cst_3, val_main_v30, val_main_v29, val_main_v0]
  rw [show (⟨3072 + (h.val * 128 + d.val), by omega⟩ : Fin 10240) = ⟨3072 + (128 * h.val + d.val), by omega⟩ from Fin.ext (by show 3072 + (h.val * 128 + d.val) = 3072 + (128 * h.val + d.val); omega)]

/-- the keys; -/
theorem key_reference (b : Fin 128) (t : Fin 8) (h : Fin 4) (d : Fin 128) :
    val_main_v47 (F := Ideal) x0 x1 x6 x7 (ix4 b t h d) = keyAt (rowsOf x0 b) (decaysOf x1 x6 x7 b) t ⟨128 * h.val + d.val, by omega⟩ := by
  have hd := decays_reference x1 x6 x7 b t h d
  unfold val_main_v47 val_main_v46 val_main_v45 keyAt rowsOf
  generalize val_main_v42 (F := Ideal) x1 x6 x7 = g at hd
  rw [← hd]
  pointwise [val_main_v33, val_main_v1, val_main_v0]
  rw [show (⟨3584 + (h.val * 128 + d.val), by omega⟩ : Fin 10240) = ⟨3584 + (128 * h.val + d.val), by omega⟩ from Fin.ext (by show 3584 + (h.val * 128 + d.val) = 3584 + (128 * h.val + d.val); omega)]

/-- the masked scores; -/
theorem score_reference (b : Fin 128) (h : Fin 4) (t s : Fin 8) :
    val_main_v50 (F := Ideal) x0 x1 x6 x7 (ix4 b h t s) = if s.val ≤ t.val then scoreAt (rowsOf x0 b) (decaysOf x1 x6 x7 b) h t s else 0 := by
  have hq := query_reference x0 x1 x6 x7 b
  have hk := key_reference x0 x1 x6 x7 b
  unfold val_main_v50 val_main_v49 scoreAt
  generalize val_main_v44 (F := Ideal) x0 x1 x6 x7 = q at hq
  generalize val_main_v47 (F := Ideal) x0 x1 x6 x7 = k at hk
  pointwise [val_main_call3_v2, val_main_call3_v1, val_main_call3_v0, val_main_cst_6, val_main_v48, val_main_v38, val_main_v37, val_main_c, val_main_call1_v0, val_main_call1_v1, val_main_call1_v2, val_main_call1_v3, val_main_call1_v4, val_main_call1_v5, val_main_call1_c_0, val_main_call1_c]
  simp only [causal_word, hq, hk]
  exact if_congr Iff.rfl rfl Ideal.ofBits_zero_f32

/-- the attention's values; -/
theorem head_reference (b : Fin 128) (t : Fin 8) (h : Fin 4) (e : Fin 256) :
    val_main_v55 (F := Ideal) x0 x1 x2 x6 x7 (ix4 b t h e)
      = headAt (rowsOf x0 b) (decaysOf x1 x6 x7 b) (fun h d e => x2 (ix5 0 b h d e)) t h e := by
  have hs := score_reference x0 x1 x6 x7 b
  have hq := query_reference x0 x1 x6 x7 b
  unfold val_main_v55 val_main_v54 val_main_v53 val_main_v52 val_main_v51 headAt
  generalize val_main_v50 (F := Ideal) x0 x1 x6 x7 = a at hs
  generalize val_main_v44 (F := Ideal) x0 x1 x6 x7 = q at hq
  pointwise [val_main_v34, val_main_v2, val_main_v0, val_main_v36]
  simp only [hs, hq]
  refine congrArg₂ (fun a b : EReal => a + b) (Finset.sum_congr rfl fun s _ => ?_) (Finset.sum_congr rfl fun d _ => mul_comm _ _)
  rw [mul_comm]
  refine congrArg₂ (fun a b : EReal => a * b) rfl ?_
  show x0 _ = x0 _
  exact congrArg (fun k => x0 (ix2 _ k)) (Fin.ext (by show 4096 + (h.val * 256 + e.val) = 4096 + (256 * h.val + e.val); omega))

/-- their normalised rows; -/
theorem norm_reference (b : Fin 128) (t : Fin 8) (h : Fin 4) (e : Fin 256) :
    val_main_v102 (F := Ideal) x0 x1 x2 x6 x7 x8 (ix4 b t h e)
      = normAt (headAt (rowsOf x0 b) (decaysOf x1 x6 x7 b) (fun h d e => x2 (ix5 0 b h d e)) t h) e * x8 (ix3 0 h e) := by
  have ho := head_reference x0 x1 x2 x6 x7 b
  unfold val_main_v102 val_main_v99 val_main_v98 val_main_v97 val_main_v96 val_main_v94 val_main_v92 val_main_v91 val_main_v90 normAt
  generalize val_main_v55 (F := Ideal) x0 x1 x2 x6 x7 = o at ho
  pointwise [val_main_v101, val_main_v100, val_main_v95, val_main_cst_11, val_main_v93, val_main_cst_10, val_main_cst_9, val_main_v89]
  simp only [ho]

/-- the masked spatial weights; -/
theorem weight_reference (h : Fin 4) (t s : Fin 8) :
    val_main_v73 (F := Ideal) x4 (ix3 h t s) = if s.val ≤ t.val then x4 (ix4 0 h ⟨t.val, by omega⟩ ⟨s.val, by omega⟩) else 0 := by
  pointwise [val_main_v73, val_main_call5_v2, val_main_call5_v1, val_main_call5_v0, val_main_cst_8, val_main_v72, val_main_v71, val_main_v70, val_main_v69, val_main_v68, val_main_c_7, val_main_call4_v0, val_main_call4_v1, val_main_call4_v2, val_main_call4_v3, val_main_call4_v4, val_main_call4_v5, val_main_call4_c_0, val_main_call4_c]
  simp only [causal_word]
  exact if_congr Iff.rfl rfl Ideal.ofBits_zero_f32

/-- the spatial gate; -/
theorem spatial_reference (b : Fin 128) (t : Fin 8) (h : Fin 4) (e : Fin 256) :
    val_main_v82 (F := Ideal) x0 x3 x4 x5 (ix4 b t h e)
      = spatialAt (rowsOf x0 b) (fun k => x3 (ix2 0 k)) (fun h t s => x4 (ix4 0 h ⟨t.val, by omega⟩ ⟨s.val, by omega⟩)) (fun h t => x5 (ix3 0 h ⟨t.val, by omega⟩)) t h e := by
  have hw := weight_reference x4
  have hv := rows_reference x0 x3
  unfold val_main_v82 val_main_v76 val_main_v75 val_main_v74 spatialAt
  generalize val_main_v73 (F := Ideal) x4 = w at hw
  generalize val_main_v17 (F := Ideal) x0 x3 = v at hv
  pointwise [val_main_v81, val_main_v80, val_main_v79, val_main_v78, val_main_v77]
  simp only [hw, hv]
  refine congrArg (fun z => z + _) (Finset.sum_congr rfl fun s _ => ?_)
  rw [mul_comm]
  refine congrArg₂ (fun a b : EReal => a * b) rfl ?_
  rw [show (⟨h.val * 256 + e.val, by omega⟩ : Fin 1024) = ⟨256 * h.val + e.val, by omega⟩ from Fin.ext (by show h.val * 256 + e.val = 256 * h.val + e.val; omega)]
  rfl

/-- A row and a column of the flattened branches, as the entry's. -/
theorem logistic_same (x : EReal) : Ideal.div (Ideal.ofBits FTy.f32 1065353216#32) (Ideal.ofBits FTy.f32 1065353216#32 + Ideal.exp (-x)) = Ideal.logistic x := by
  rw [Ideal.ofBits_one_f32]; rfl

/-- the first branch; -/
theorem first_reference (b : Fin 128) (t : Fin 8) (c : Fin 1024) :
    val_main_v88 (F := Ideal) x0 x3 x4 x5 (ix2 ⟨b.val * 8 + t.val, by omega⟩ c)
      = firstAt (rowsOf x0 b) (fun k => x3 (ix2 0 k)) (fun h t s => x4 (ix4 0 h ⟨t.val, by omega⟩ ⟨s.val, by omega⟩)) (fun h t => x5 (ix3 0 h ⟨t.val, by omega⟩)) t c := by
  have hs := spatial_reference x0 x3 x4 x5
  unfold val_main_v88 val_main_v85 val_main_v84 firstAt
  generalize val_main_v82 (F := Ideal) x0 x3 x4 x5 = s at hs
  pointwise [val_main_v87, val_main_call6_v5, val_main_call6_v4, val_main_call6_cst_0, val_main_call6_v3, val_main_call6_v2, val_main_call6_cst, val_main_call6_v1, val_main_call6_v0, val_main_v86, val_main_v83, val_main_v0]
  refine Eq.trans (congrArg (fun z : EReal => x0 _ * z * (_ : EReal)) (hs b t ⟨c.val / 256, by omega⟩ ⟨c.val % 256, by omega⟩)) ?_
  rfl

/-- the second; -/
theorem second_reference (b : Fin 128) (t : Fin 8) (c : Fin 1024) :
    val_main_v106 (F := Ideal) x0 x1 x2 x6 x7 x8 (ix2 ⟨b.val * 8 + t.val, by omega⟩ c)
      = secondAt (rowsOf x0 b) (decaysOf x1 x6 x7 b) (fun h d e => x2 (ix5 0 b h d e)) (fun h e => x8 (ix3 0 h e)) t c := by
  have hn := norm_reference x0 x1 x2 x6 x7 x8
  unfold val_main_v106 val_main_v103 secondAt
  generalize val_main_v102 (F := Ideal) x0 x1 x2 x6 x7 x8 = s at hn
  pointwise [val_main_v105, val_main_call7_v5, val_main_call7_v4, val_main_call7_cst_0, val_main_call7_v3, val_main_call7_v2, val_main_call7_cst, val_main_call7_v1, val_main_call7_v0, val_main_v104, val_main_v0]
  refine Eq.trans (congrArg (fun z : EReal => z * (_ : EReal)) (hn b t ⟨c.val / 256, by omega⟩ ⟨c.val % 256, by omega⟩)) ?_
  rfl

/-- and the two merged. -/
theorem merge_reference (b : Fin 128) (t : Fin 8) (k : Fin 2048) :
    val_main_v128 (F := Ideal) x0 x1 x2 x3 x4 x5 x6 x7 x8 x9 x10 (ix2 ⟨b.val * 8 + t.val, by omega⟩ k)
      = mergeAt (rowsOf x0 b) (decaysOf x1 x6 x7 b) (fun h d e => x2 (ix5 0 b h d e)) (fun k => x3 (ix2 0 k))
        (fun h t s => x4 (ix4 0 h ⟨t.val, by omega⟩ ⟨s.val, by omega⟩)) (fun h t => x5 (ix3 0 h ⟨t.val, by omega⟩)) (fun h e => x8 (ix3 0 h e))
        (fun c k => x9 (ix2 c k)) (fun c k => x10 (ix2 c k)) t k := by
  have ha := first_reference x0 x3 x4 x5 b t
  have hb := second_reference x0 x1 x2 x6 x7 x8 b t
  unfold val_main_v128 val_main_v127 val_main_v126 val_main_v125 val_main_v116 val_main_v115 mergeAt
  generalize val_main_v88 (F := Ideal) x0 x3 x4 x5 = f at ha
  generalize val_main_v106 (F := Ideal) x0 x1 x2 x6 x7 x8 = g at hb
  pointwise [val_main_v124, val_main_v123, val_main_v122, val_main_v121, val_main_v120, val_main_v119, val_main_v118, val_main_v117, val_main_v114, val_main_v113, val_main_v112, val_main_v111, val_main_v110, val_main_v109, val_main_v108, val_main_v107, val_main_v0, val_main_cst_12, val_main_cst_13, val_main_cst_14, val_main_cst_15]
  simp only [ha, hb, logistic_same]
  rfl

end Cert.Mix

end
-- ==== Proof.MixAttend.lean ====
/- The attention's values of the decoded rows, as the body computes them: sixteen entries side by side, four heads after one another. -/
module

public import proofs.«01_k».proof.Proof.MixForms

@[expose] public section

set_option maxRecDepth 16384

noncomputable section

namespace Cert.Mix

open Idealize.ShloMosaic Idealize.ShloMosaic.TcCoe
open Cert.Kernel4Ideal Cert.Kernel4Ideal.Gen

set_option maxHeartbeats 4000000 in
/-- A head's values: what is added to sixteen pieces of eight rows, read at a row. -/
theorem head_sum (A : FVec Ideal S128x256 .f32) (p0 p1 p2 p3 p4 p5 p6 p7 p8 p9 p10 p11 p12 p13 p14 p15 : FVec Ideal S8x256 .f32) (H) (g : Fin 128 → Fin 256 → EReal)
    (f : Fin 16 → Fin 8 → Fin 256 → EReal) (hA : ∀ r e, A (ix2 r e) = g r e)
    (h0 : ∀ i e, p0 (ix2 i e) = f 0 i e)
    (h1 : ∀ i e, p1 (ix2 i e) = f 1 i e)
    (h2 : ∀ i e, p2 (ix2 i e) = f 2 i e)
    (h3 : ∀ i e, p3 (ix2 i e) = f 3 i e)
    (h4 : ∀ i e, p4 (ix2 i e) = f 4 i e)
    (h5 : ∀ i e, p5 (ix2 i e) = f 5 i e)
    (h6 : ∀ i e, p6 (ix2 i e) = f 6 i e)
    (h7 : ∀ i e, p7 (ix2 i e) = f 7 i e)
    (h8 : ∀ i e, p8 (ix2 i e) = f 8 i e)
    (h9 : ∀ i e, p9 (ix2 i e) = f 9 i e)
    (h10 : ∀ i e, p10 (ix2 i e) = f 10 i e)
    (h11 : ∀ i e, p11 (ix2 i e) = f 11 i e)
    (h12 : ∀ i e, p12 (ix2 i e) = f 12 i e)
    (h13 : ∀ i e, p13 (ix2 i e) = f 13 i e)
    (h14 : ∀ i e, p14 (ix2 i e) = f 14 i e)
    (h15 : ∀ i e, p15 (ix2 i e) = f 15 i e)
    (r : Fin 128) (e : Fin 256) :
    addf A (concatenate S128x256 0 [⟨S8x256, p0⟩, ⟨S8x256, p1⟩, ⟨S8x256, p2⟩, ⟨S8x256, p3⟩, ⟨S8x256, p4⟩, ⟨S8x256, p5⟩, ⟨S8x256, p6⟩, ⟨S8x256, p7⟩, ⟨S8x256, p8⟩, ⟨S8x256, p9⟩, ⟨S8x256, p10⟩, ⟨S8x256, p11⟩, ⟨S8x256, p12⟩, ⟨S8x256, p13⟩, ⟨S8x256, p14⟩, ⟨S8x256, p15⟩] H) (ix2 r e)
      = g r e + f ⟨r.val / 8, by omega⟩ ⟨r.val % 8, by omega⟩ e := by
  have hp : ∀ (n : Fin 16) i e, (![p0, p1, p2, p3, p4, p5, p6, p7, p8, p9, p10, p11, p12, p13, p14, p15] : Fin 16 → FVec Ideal S8x256 .f32) n (ix2 i e) = f n i e := by
    intro n
    fin_cases n
    exacts [h0, h1, h2, h3, h4, h5, h6, h7, h8, h9, h10, h11, h12, h13, h14, h15]
  refine congrArg₂ (fun a b : EReal => a + b) (hA r e) ?_
  refine Eq.trans (concatenate_ofFn_apply (t := S128x256) (s₁ := S8x256) 0 (![p0, p1, p2, p3, p4, p5, p6, p7, p8, p9, p10, p11, p12, p13, p14, p15] : Fin 16 → FVec Ideal S8x256 .f32) H rfl 8 rfl (ix2 r e)
    ⟨r.val / 8, by omega⟩ rfl (ix2 ⟨r.val % 8, by omega⟩ e) rfl ?_) (hp _ _ _)
  intro b hb
  fin_cases b
  · exact absurd rfl hb
  · rfl

/-- Four heads, read at a column. -/
theorem four_heads (p0 p1 p2 p3 : FVec Ideal S128x256 .f32) (H) (f : Fin 4 → Fin 128 → Fin 256 → EReal)
    (h0 : ∀ r e, p0 (ix2 r e) = f 0 r e) (h1 : ∀ r e, p1 (ix2 r e) = f 1 r e) (h2 : ∀ r e, p2 (ix2 r e) = f 2 r e) (h3 : ∀ r e, p3 (ix2 r e) = f 3 r e)
    (r : Fin 128) (c : Fin 1024) :
    concatenate S128x1024 1 [⟨S128x256, p0⟩, ⟨S128x256, p1⟩, ⟨S128x256, p2⟩, ⟨S128x256, p3⟩] H (ix2 r c)
      = f ⟨c.val / 256, by omega⟩ r ⟨c.val % 256, by omega⟩ := by
  pointwise []
  have hc := c.isLt
  repeat' refine cases_eq (fun _ => ?_) (fun _ => ?_)
  all_goals
    simp only [h0, h1, h2, h3]
    refine congrArg₂ (fun h e => f h r e) (Fin.ext ?_) (Fin.ext ?_)
    all_goals first | omega | (simp; done) | (simp; omega)

theorem entry_slice (n : Fin 16) (h : Fin 4) : S128x512.Slices ![8 * n.val, 128 * h.val] S8x128 :=
  ⟨rfl, fun a => by fin_cases a <;> simp [Shape.size] <;> omega⟩

/-- An entry's eight queries of one head against the old state, -/
def readMat (q : FVec Ideal S128x512 .f32) (x : Vec Ideal S1x1x128x256 .f32) (n : Fin 16) (h : Fin 4) : FVec Ideal S8x256 .f32 :=
  matmul dot_S8x128_S128x256_S8x256_1_0_0_1_n_n none (extractStridedSlice S8x128 ![8 * n.val, 128 * h.val] q (entry_slice n h))
    (shapeCast S128x256 x shapeCasts_S1x1x128x256_S128x256 : FVec Ideal S128x256 .f32) (constant S8x256 .f32 0x00000000#32)
/-- at an index, -/
def readAt (q : FVec Ideal S128x512 .f32) (x2 : Vec Ideal S16x4x128x256 .f32) (h : Fin 4) (n : Fin 16) (i : Fin 8) (e : Fin 256) : EReal :=
  ∑ d : Fin 128, q (ix2 ⟨8 * n.val + i.val, by omega⟩ ⟨128 * h.val + d.val, by omega⟩) * x2 (ix4 n h d e)
/-- as the body computes them. -/
theorem read_apply (q : FVec Ideal S128x512 .f32) (x2 : Vec Ideal S16x4x128x256 .f32) (n : Fin 16) (h : Fin 4)
    (inb : ∀ a, (![n.val, h.val, 0, 0] : Fin 4 → ℕ) a + S1x1x128x256.size a ≤ S16x4x128x256.size a) (i : Fin 8) (e : Fin 256) :
    readMat q (View.ld x2 (Rect.unit (s := S16x4x128x256) ![n.val, h.val, 0, 0] S1x1x128x256.size inb)) n h (ix2 i e) = readAt q x2 h n i e := by
  have hx : ∀ d : Fin 128, View.ld x2 (Rect.unit (s := S16x4x128x256) ![n.val, h.val, 0, 0] S1x1x128x256.size inb) (ix4 0 0 d e) = x2 (ix4 n h d e) := by
    intro d
    refine congrArg x2 (funext fun a => Fin.ext ?_)
    fin_cases a
    · rfl
    · rfl
    · show 0 + 1 * d.val = d.val
      omega
    · show 0 + 1 * e.val = e.val
      omega
  unfold readMat readAt
  generalize View.ld x2 (Rect.unit (s := S16x4x128x256) ![n.val, h.val, 0, 0] S1x1x128x256.size inb) = x at hx
  pointwise []
  simp only [hx]

/-- The rows' queries of one head against their keys, masked to the entry, against the values, -/
def ownMat (q : FVec Ideal S128x512 .f32) (k : FVec Ideal S128x512 .bf16) (w : IVec S128x128 1) (v : FVec Ideal S128x1024 .bf16) (h : Fin 4) : FVec Ideal S128x256 .f32 :=
  matmul dot_S128x128_S128x256_S128x256_1_0_0_1_n_n none
    (truncf .bf16
      (select w
        (matmul dot_S128x128_S128x128_S128x128_1_1_0_0_n_n none
          (truncf .bf16 (extractStridedSlice S128x128 ![0, 128 * h.val] q (key_slice h.isLt)) bitsLt_bf16_f32)
          (extractStridedSlice S128x128 ![0, 128 * h.val] k (key_slice h.isLt)) (constant S128x128 .f32 0x00000000#32))
        (broadcast S128x128 (Scalar.ofBits .f32 0x00000000#32)))
      bitsLt_bf16_f32)
    (extractStridedSlice S128x256 ![0, 256 * h.val] v (value_slice h.isLt)) (constant S128x256 .f32 0x00000000#32)
/-- at an index, -/
def ownAt (q : FVec Ideal S128x512 .f32) (k : FVec Ideal S128x512 .bf16) (v : FVec Ideal S128x1024 .bf16) (h : Fin 4) (r : Fin 128) (e : Fin 256) : EReal :=
  ∑ s : Fin 128, (if s.val / 8 = r.val / 8 ∧ s.val ≤ r.val then
      ∑ d : Fin 128, q (ix2 r ⟨128 * h.val + d.val, by omega⟩) * k (ix2 s ⟨128 * h.val + d.val, by omega⟩) else 0)
    * v (ix2 s ⟨256 * h.val + e.val, by omega⟩)

section
variable (x0 : Vec Ideal S128x10240 .bf16) (x1 : Vec Ideal S128x128 .bf16) (x2 : Vec Ideal S16x4x128x256 .f32) (x3 : Vec Ideal S1x1024 .f32)
    (x4 : Vec Ideal S4x128x128 .f32) (x5 : Vec Ideal S128x4 .f32) (x6 : Vec Ideal S128x512 .bf16) (x7 : Vec Ideal S1x512 .f32)
    (x8 : Vec Ideal S1x1024 .f32) (x9 x10 : Vec Ideal S1024x2048 .bf16)

/-- as the body computes them. -/
theorem own_apply (q : FVec Ideal S128x512 .f32) (k : FVec Ideal S128x512 .bf16) (v : FVec Ideal S128x1024 .bf16) (h : Fin 4) (r : Fin 128) (e : Fin 256) :
    ownMat q k (k0_pay294 x0 x1 x2 x3 x4 x5 x6 x7 x8 x9 x10) v h (ix2 r e) = ownAt q k v h r e := by
  unfold ownMat ownAt
  pointwise [k0_pay294, k0_pay8, k0_pay288, k0_pay289, k0_pay292, k0_pay293, k0_pay6, k0_pay7]
  simp only [same_entry_word, ite_mul, zero_mul]

set_option maxHeartbeats 4000000 in
/-- The attention's values, from the queries and the keys; -/
theorem heads_kernel (r : Fin 128) (c : Fin 1024) :
    k0_pay331 x0 x1 x2 x3 x4 x5 x6 x7 x8 x9 x10 (ix2 r c)
      = ownAt (k0_pay296 x0 x1 x2 x3 x4 x5 x6 x7 x8 x9 x10) (k0_pay297 x0 x1 x2 x3 x4 x5 x6 x7 x8 x9 x10) (View.ld x0 r0_5) ⟨c.val / 256, by omega⟩ r ⟨c.val % 256, by omega⟩
        + readAt (k0_pay296 x0 x1 x2 x3 x4 x5 x6 x7 x8 x9 x10) x2 ⟨c.val / 256, by omega⟩ ⟨r.val / 8, by omega⟩ ⟨r.val % 8, by omega⟩ ⟨c.val % 256, by omega⟩ := by
  unfold k0_pay331 k0_pay260 k0_pay314 k0_pay315 k0_pay316
  refine four_heads _ _ _ _ _ (fun h r e => ownAt (k0_pay296 x0 x1 x2 x3 x4 x5 x6 x7 x8 x9 x10) (k0_pay297 x0 x1 x2 x3 x4 x5 x6 x7 x8 x9 x10) (View.ld x0 r0_5) h r e
    + readAt (k0_pay296 x0 x1 x2 x3 x4 x5 x6 x7 x8 x9 x10) x2 h ⟨r.val / 8, by omega⟩ ⟨r.val % 8, by omega⟩ e) ?_ ?_ ?_ ?_ r c
  · intro r e
    unfold k0_pay86
    refine head_sum _ _ _ _ _ _ _ _ _ _ _ _ _ _ _ _ _ _ (ownAt (k0_pay296 x0 x1 x2 x3 x4 x5 x6 x7 x8 x9 x10) (k0_pay297 x0 x1 x2 x3 x4 x5 x6 x7 x8 x9 x10) (View.ld x0 r0_5) 0)
      (readAt (k0_pay296 x0 x1 x2 x3 x4 x5 x6 x7 x8 x9 x10) x2 0) ?_ ?_ ?_ ?_ ?_ ?_ ?_ ?_ ?_ ?_ ?_ ?_ ?_ ?_ ?_ ?_ ?_ r e
    · exact fun r e => Eq.trans (by rfl) (own_apply x0 x1 x2 x3 x4 x5 x6 x7 x8 x9 x10 _ _ _ 0 r e)
    all_goals exact fun i e => Eq.trans (by rfl) (read_apply _ x2 _ 0 _ i e)
  · intro r e
    unfold k0_pay144
    refine head_sum _ _ _ _ _ _ _ _ _ _ _ _ _ _ _ _ _ _ (ownAt (k0_pay296 x0 x1 x2 x3 x4 x5 x6 x7 x8 x9 x10) (k0_pay297 x0 x1 x2 x3 x4 x5 x6 x7 x8 x9 x10) (View.ld x0 r0_5) 1)
      (readAt (k0_pay296 x0 x1 x2 x3 x4 x5 x6 x7 x8 x9 x10) x2 1) ?_ ?_ ?_ ?_ ?_ ?_ ?_ ?_ ?_ ?_ ?_ ?_ ?_ ?_ ?_ ?_ ?_ r e
    · exact fun r e => Eq.trans (by rfl) (own_apply x0 x1 x2 x3 x4 x5 x6 x7 x8 x9 x10 _ _ _ 1 r e)
    all_goals exact fun i e => Eq.trans (by rfl) (read_apply _ x2 _ 1 _ i e)
  · intro r e
    unfold k0_pay202
    refine head_sum _ _ _ _ _ _ _ _ _ _ _ _ _ _ _ _ _ _ (ownAt (k0_pay296 x0 x1 x2 x3 x4 x5 x6 x7 x8 x9 x10) (k0_pay297 x0 x1 x2 x3 x4 x5 x6 x7 x8 x9 x10) (View.ld x0 r0_5) 2)
      (readAt (k0_pay296 x0 x1 x2 x3 x4 x5 x6 x7 x8 x9 x10) x2 2) ?_ ?_ ?_ ?_ ?_ ?_ ?_ ?_ ?_ ?_ ?_ ?_ ?_ ?_ ?_ ?_ ?_ r e
    · exact fun r e => Eq.trans (by rfl) (own_apply x0 x1 x2 x3 x4 x5 x6 x7 x8 x9 x10 _ _ _ 2 r e)
    all_goals exact fun i e => Eq.trans (by rfl) (read_apply _ x2 _ 2 _ i e)
  · intro r e
    refine head_sum _ _ _ _ _ _ _ _ _ _ _ _ _ _ _ _ _ _ (ownAt (k0_pay296 x0 x1 x2 x3 x4 x5 x6 x7 x8 x9 x10) (k0_pay297 x0 x1 x2 x3 x4 x5 x6 x7 x8 x9 x10) (View.ld x0 r0_5) 3)
      (readAt (k0_pay296 x0 x1 x2 x3 x4 x5 x6 x7 x8 x9 x10) x2 3) ?_ ?_ ?_ ?_ ?_ ?_ ?_ ?_ ?_ ?_ ?_ ?_ ?_ ?_ ?_ ?_ ?_ r e
    · exact fun r e => Eq.trans (by rfl) (own_apply x0 x1 x2 x3 x4 x5 x6 x7 x8 x9 x10 _ _ _ 3 r e)
    all_goals exact fun i e => Eq.trans (by rfl) (read_apply _ x2 _ 3 _ i e)

/-- the queries; -/
theorem query_kernel (n : Fin 16) (i : Fin 8) (j : Fin 512) :
    k0_pay296 x0 x1 x2 x3 x4 x5 x6 x7 x8 x9 x10 (ix2 ⟨8 * n.val + i.val, by omega⟩ j)
      = queryAt (fun t k => x0 (ix2 ⟨8 * n.val + t.val, by omega⟩ k))
        (fun t j => k0_pay295 x0 x1 x2 x3 x4 x5 x6 x7 x8 x9 x10 (ix2 ⟨8 * n.val + t.val, by omega⟩ j)) i j := by
  have hb : k0_pay9 (k0_pay290 x0 x1 x2 x3 x4 x5 x6 x7 x8 x9 x10) (k0_pay288 x0 x1 x2 x3 x4 x5 x6 x7 x8 x9 x10)
      (k0_pay289 x0 x1 x2 x3 x4 x5 x6 x7 x8 x9 x10) (k0_pay292 x0 x1 x2 x3 x4 x5 x6 x7 x8 x9 x10) (k0_pay293 x0 x1 x2 x3 x4 x5 x6 x7 x8 x9 x10)
      = k0_pay295 x0 x1 x2 x3 x4 x5 x6 x7 x8 x9 x10 := rfl
  unfold k0_pay296 k0_pay10 queryAt
  rw [hb]
  generalize k0_pay295 x0 x1 x2 x3 x4 x5 x6 x7 x8 x9 x10 = b
  pointwise [k0_pay4]

/-- the keys; -/
theorem key_kernel (n : Fin 16) (i : Fin 8) (j : Fin 512) :
    k0_pay297 x0 x1 x2 x3 x4 x5 x6 x7 x8 x9 x10 (ix2 ⟨8 * n.val + i.val, by omega⟩ j)
      = keyAt (fun t k => x0 (ix2 ⟨8 * n.val + t.val, by omega⟩ k))
        (fun t j => k0_pay295 x0 x1 x2 x3 x4 x5 x6 x7 x8 x9 x10 (ix2 ⟨8 * n.val + t.val, by omega⟩ j)) i j := by
  have hb : k0_pay9 (k0_pay290 x0 x1 x2 x3 x4 x5 x6 x7 x8 x9 x10) (k0_pay288 x0 x1 x2 x3 x4 x5 x6 x7 x8 x9 x10)
      (k0_pay289 x0 x1 x2 x3 x4 x5 x6 x7 x8 x9 x10) (k0_pay292 x0 x1 x2 x3 x4 x5 x6 x7 x8 x9 x10) (k0_pay293 x0 x1 x2 x3 x4 x5 x6 x7 x8 x9 x10)
      = k0_pay295 x0 x1 x2 x3 x4 x5 x6 x7 x8 x9 x10 := rfl
  unfold k0_pay297 k0_pay11 keyAt
  rw [hb]
  generalize k0_pay295 x0 x1 x2 x3 x4 x5 x6 x7 x8 x9 x10 = b
  pointwise [k0_pay291, k0_pay5]
  rw [zero_sub]

/-- so entry by entry the attention's values. -/
theorem heads_entry (n : Fin 16) (i : Fin 8) (h : Fin 4) (e : Fin 256) :
    k0_pay331 x0 x1 x2 x3 x4 x5 x6 x7 x8 x9 x10 (ix2 ⟨8 * n.val + i.val, by omega⟩ ⟨256 * h.val + e.val, by omega⟩)
      = headAt (fun t k => x0 (ix2 ⟨8 * n.val + t.val, by omega⟩ k))
        (fun t j => k0_pay295 x0 x1 x2 x3 x4 x5 x6 x7 x8 x9 x10 (ix2 ⟨8 * n.val + t.val, by omega⟩ j)) (fun h d e => x2 (ix4 n h d e)) i h e := by
  have hq := query_kernel x0 x1 x2 x3 x4 x5 x6 x7 x8 x9 x10 n
  have hk := key_kernel x0 x1 x2 x3 x4 x5 x6 x7 x8 x9 x10 n
  rw [heads_kernel]
  rw [show (⟨(256 * h.val + e.val) / 256, by omega⟩ : Fin 4) = h from Fin.ext (by show (256 * h.val + e.val) / 256 = h.val; omega),
    show (⟨(256 * h.val + e.val) % 256, by omega⟩ : Fin 256) = e from Fin.ext (by show (256 * h.val + e.val) % 256 = e.val; omega),
    show (⟨(8 * n.val + i.val) / 8, by omega⟩ : Fin 16) = n from Fin.ext (by show (8 * n.val + i.val) / 8 = n.val; omega),
    show (⟨(8 * n.val + i.val) % 8, by omega⟩ : Fin 8) = i from Fin.ext (by show (8 * n.val + i.val) % 8 = i.val; omega)]
  generalize k0_pay296 x0 x1 x2 x3 x4 x5 x6 x7 x8 x9 x10 = q at hq
  generalize k0_pay297 x0 x1 x2 x3 x4 x5 x6 x7 x8 x9 x10 = k at hk
  unfold ownAt readAt headAt
  refine congrArg₂ (fun a b : EReal => a + b) ?_ ?_
  · refine Eq.trans (Finset.sum_congr rfl fun s _ => ?_)
      ((entry_sum (fun s => (if s.val ≤ 8 * n.val + i.val then
        ∑ d : Fin 128, q (ix2 ⟨8 * n.val + i.val, by omega⟩ ⟨128 * h.val + d.val, by omega⟩) * k (ix2 s ⟨128 * h.val + d.val, by omega⟩) else 0)
        * View.ld x0 r0_5 (ix2 s ⟨256 * h.val + e.val, by omega⟩)) n).trans (Finset.sum_congr rfl fun s _ => ?_))
    · show (if s.val / 8 = (8 * n.val + i.val) / 8 ∧ s.val ≤ 8 * n.val + i.val then _ else _) * _ = _
      rw [show (8 * n.val + i.val) / 8 = n.val by omega, ite_and, ite_mul, zero_mul]
    · simp only [Nat.add_le_add_iff_left, hq, hk]
      pointwise []
      rfl
  · simp only [hq]
end

end Cert.Mix

end
-- ==== Proof.MixBranches.lean ====
/- The two branches of the decoded rows, as the body computes them: the spatial gate's and the attention's. -/
module

public import proofs.«01_k».proof.Proof.MixAttend

@[expose] public section

set_option maxRecDepth 16384

noncomputable section

namespace Cert.Mix

open Idealize.ShloMosaic Idealize.ShloMosaic.TcCoe
open Cert.Kernel4Ideal Cert.Kernel4Ideal.Gen

/-- The words that say a row is a token's, a column a token's, and two rows one entry's. -/
theorem token_word {α : Type} (r t : Fin 128) (x y : α) :
    Scalar.select (IntOp.andi (IntOp.cmpi .slt (BitVec.ofNat 32 t.val) 8#32)
      (IntOp.cmpi .eq (IntOp.andi (BitVec.ofNat 32 r.val) 7#32) (BitVec.ofNat 32 t.val))) x y
      = if t = ⟨r.val % 8, by omega⟩ then x else y := by
  have h : ∀ r t : Fin 128, IntOp.andi (IntOp.cmpi .slt (BitVec.ofNat 32 t.val) 8#32)
      (IntOp.cmpi .eq (IntOp.andi (BitVec.ofNat 32 r.val) 7#32) (BitVec.ofNat 32 t.val)) = if t.val = r.val % 8 then 1#1 else 0#1 := by decide +kernel
  rw [h]
  by_cases e : t.val = r.val % 8
  · rw [if_pos e, if_pos (Fin.ext e)]; rfl
  · rw [if_neg e, if_neg (fun h => e (congrArg Fin.val h))]; rfl

theorem order_word {α : Type} (r s : Fin 128) (x y : α) :
    Scalar.select
      (IntOp.andi (IntOp.cmpi .sle (BitVec.ofNat 32 s.val) (BitVec.ofNat 32 r.val))
        (IntOp.cmpi .eq (IntOp.shrsi .vector (BitVec.ofNat 32 r.val) 3#32) (IntOp.shrsi .vector (BitVec.ofNat 32 s.val) 3#32))) x y
      = if s.val / 8 = r.val / 8 ∧ s.val ≤ r.val then x else y := by
  rw [← same_entry_word]
  congr 1
  exact BitVec.and_comm _ _

theorem bias_word {α : Type} (n : Fin 16) (i : Fin 8) (t : ℕ) (ht : t < 8) (x y : α) :
    Scalar.select (IntOp.cmpi .eq (IntOp.andi (BitVec.ofNat 32 (8 * n.val + i.val)) 7#32) (BitVec.ofNat 32 t)) x y = if i.val = t then x else y := by
  have h : ∀ (n : Fin 16) (i t : Fin 8), IntOp.cmpi .eq (IntOp.andi (BitVec.ofNat 32 (8 * n.val + i.val)) 7#32) (BitVec.ofNat 32 t.val)
      = if i.val = t.val then 1#1 else 0#1 := by decide +kernel
  rw [h n i ⟨t, ht⟩]
  by_cases e : i.val = t
  · rw [if_pos e, if_pos e]; rfl
  · rw [if_neg e, if_neg e]; rfl

theorem bias_slice (h : Fin 4) : S128x4.Slices ![0, h.val] S128x1 :=
  ⟨rfl, fun a => by fin_cases a <;> simp [Shape.size] <;> omega⟩
theorem gain_slice (h : Fin 4) : S1x1024.Slices ![0, 256 * h.val] S1x256 :=
  ⟨rfl, fun a => by fin_cases a <;> simp [Shape.size] <;> omega⟩

/-- A head's spatial gate, -/
def spatialMat (w : FVec Ideal S128x128 .bf16) (v : FVec Ideal S128x1024 .bf16) (b : FVec Ideal S128x4 .f32) (h : Fin 4) : FVec Ideal S128x256 .f32 :=
  addf (matmul dot_S128x128_S128x256_S128x256_1_0_0_1_n_n none w (extractStridedSlice S128x256 ![0, 256 * h.val] v (value_slice h.isLt)) (constant S128x256 .f32 0x00000000#32))
    (broadcastTo S128x256 (extractStridedSlice S128x1 ![0, h.val] b (bias_slice h)) broadcasts_S128x1_S128x256)
/-- at an index. -/
theorem spatial_apply (w : FVec Ideal S128x128 .bf16) (f : Fin 128 → Fin 128 → EReal) (hw : ∀ r s, w (ix2 r s) = f r s) (v : FVec Ideal S128x1024 .bf16)
    (b : FVec Ideal S128x4 .f32) (h : Fin 4) (r : Fin 128) (e : Fin 256) :
    spatialMat w v b h (ix2 r e) = (∑ s : Fin 128, f r s * v (ix2 s ⟨256 * h.val + e.val, by omega⟩)) + b (ix2 r h) := by
  unfold spatialMat
  pointwise []
  simp only [hw]

/-- The first branch, from the four heads' weights. -/
theorem first_heads (w0 w1 w2 w3 : FVec Ideal S128x128 .bf16) (f : Fin 4 → Fin 128 → Fin 128 → EReal) (h0 : ∀ r s, w0 (ix2 r s) = f 0 r s)
    (h1 : ∀ r s, w1 (ix2 r s) = f 1 r s) (h2 : ∀ r s, w2 (ix2 r s) = f 2 r s) (h3 : ∀ r s, w3 (ix2 r s) = f 3 r s) (b : FVec Ideal S128x4 .f32)
    (g : FVec Ideal S1x1024 .f32) (x : FVec Ideal S128x1024 .f32) (z u : FVec Ideal S128x1024 .bf16) (r : Fin 128) (c : Fin 1024) :
    k0_pay276 w0 w1 w2 w3 b g x z u (ix2 r c)
      = u (ix2 r c) * ((∑ s : Fin 128, f ⟨c.val / 256, by omega⟩ r s * k0_pay275 g x (ix2 s ⟨256 * (c.val / 256) + c.val % 256, by omega⟩)) + b (ix2 r ⟨c.val / 256, by omega⟩))
        * siluAt (z (ix2 r c)) := by
  unfold k0_pay276
  refine Eq.trans (by rfl) (congrArg (fun y : EReal => u (ix2 r c) * y * siluAt (z (ix2 r c)))
    (four_heads (spatialMat w0 (truncf .bf16 (k0_pay275 g x) bitsLt_bf16_f32) b 0) (spatialMat w1 (truncf .bf16 (k0_pay275 g x) bitsLt_bf16_f32) b 1)
      (spatialMat w2 (truncf .bf16 (k0_pay275 g x) bitsLt_bf16_f32) b 2) (spatialMat w3 (truncf .bf16 (k0_pay275 g x) bitsLt_bf16_f32) b 3)
      concatenates_S128x256_S128x256_S128x256_S128x256_S128x1024_d1
      (fun h r e => (∑ s : Fin 128, f h r s * k0_pay275 g x (ix2 s ⟨256 * h.val + e.val, by omega⟩)) + b (ix2 r h))
      (spatial_apply w0 (f 0) h0 _ b 0) (spatial_apply w1 (f 1) h1 _ b 1) (spatial_apply w2 (f 2) h2 _ b 2) (spatial_apply w3 (f 3) h3 _ b 3) r c))

/-- A head's row, normalised, -/
def normMat (o : FVec Ideal S128x1024 .f32) (g : FVec Ideal S1x1024 .f32) (h : Fin 4) : FVec Ideal S128x256 .f32 :=
  mulf (mulf (extractStridedSlice S128x256 ![0, 256 * h.val] o (value_slice h.isLt))
      (broadcastTo S128x256 (rsqrt (addf (divf (shapeCast S128x1
        (multiReduction .add [1] S128 (mulf (extractStridedSlice S128x256 ![0, 256 * h.val] o (value_slice h.isLt)) (extractStridedSlice S128x256 ![0, 256 * h.val] o (value_slice h.isLt)))
          0x00000000#32 reduces_S128x256_S128 (.inl rfl) rfl) shapeCasts_S128_S128x1) (broadcast S128x1 (Scalar.ofBits .f32 0x43800000#32)))
        (broadcast S128x1 (Scalar.ofBits .f32 0x358637BD#32)))) broadcasts_S128x1_S128x256))
    (broadcastTo S128x256 (extractStridedSlice S1x256 ![0, 256 * h.val] g (gain_slice h)) broadcasts_S1x256_S128x256)
/-- at an index; -/
theorem norm_apply (o : FVec Ideal S128x1024 .f32) (g : FVec Ideal S1x1024 .f32) (h : Fin 4) (r : Fin 128) (e : Fin 256) :
    normMat o g h (ix2 r e) = normAt (fun e => o (ix2 r ⟨256 * h.val + e.val, by omega⟩)) e * g (ix2 0 ⟨256 * h.val + e.val, by omega⟩) := by
  unfold normMat normAt
  pointwise []
/-- the four heads' rows. -/
theorem norm_heads (o : FVec Ideal S128x1024 .f32) (g : Vec Ideal S1x1024 .f32) (r : Fin 128) (c : Fin 1024) :
    k0_pay281 o (k0_pay277 g) (k0_pay278 o) (k0_pay279 g) (k0_pay280 o) (ix2 r c)
      = normAt (fun e => o (ix2 r ⟨256 * (c.val / 256) + e.val, by omega⟩)) ⟨c.val % 256, by omega⟩
        * k0_pay277 g (ix2 0 ⟨256 * (c.val / 256) + c.val % 256, by omega⟩) := by
  unfold k0_pay281
  refine four_heads _ _ _ _ _
    (fun h r e => normAt (fun e => o (ix2 r ⟨256 * h.val + e.val, by omega⟩)) e * k0_pay277 g (ix2 0 ⟨256 * h.val + e.val, by omega⟩)) ?_ ?_ ?_ ?_ r c
  · exact fun r e => Eq.trans (by rfl) (norm_apply o (k0_pay277 g) 0 r e)
  · exact fun r e => Eq.trans (by rfl) (norm_apply o (k0_pay277 g) 1 r e)
  · exact fun r e => Eq.trans (by rfl) (norm_apply o (k0_pay277 g) 2 r e)
  · exact fun r e => Eq.trans (by rfl) (norm_apply o (k0_pay277 g) 3 r e)

/-- The merged branches of 128 rows, from the two branches, the projected rows and the merge's weights; -/
def mergeCell (A N : FVec Ideal S128x1024 .bf16) (x0 : Vec Ideal S128x10240 .bf16) (x9 x10 : Vec Ideal S1024x2048 .bf16) (r : Fin 128) (k : Fin 2048) : EReal :=
  Ideal.logistic (x0 (ix2 r ⟨6144 + k.val, by omega⟩)) * (∑ c : Fin 1024, A (ix2 r c) * x9 (ix2 c k))
    + Ideal.logistic (x0 (ix2 r ⟨8192 + k.val, by omega⟩)) * ∑ c : Fin 1024, N (ix2 r c) * x10 (ix2 c k)
def mergeOf (A N : FVec Ideal S128x1024 .bf16) (x0 : Vec Ideal S128x10240 .bf16) (x9 x10 : Vec Ideal S1024x2048 .bf16) : S128x2048.Idx → EReal :=
  fun y => mergeCell A N x0 x9 x10 (y 0) (y 1)

/-- 512 columns of them, as the body computes them, -/
def mergeMat (A N : FVec Ideal S128x1024 .bf16) (ma mb : FVec Ideal S128x512 .bf16) (wa wb : FVec Ideal S1024x512 .bf16) : FVec Ideal S128x512 .bf16 :=
  truncf .bf16 (addf
    (mulf (logistic (extf .f32 ma bitsLt_bf16_f32))
      (matmul dot_S128x1024_S1024x512_S128x512_1_0_0_1_n_n none A wa (constant S128x512 .f32 0x00000000#32)))
    (mulf (logistic (extf .f32 mb bitsLt_bf16_f32))
      (matmul dot_S128x1024_S1024x512_S128x512_1_0_0_1_n_n none N wb (constant S128x512 .f32 0x00000000#32)))) bitsLt_bf16_f32
/-- at an index; -/
theorem merge_apply (A N : FVec Ideal S128x1024 .bf16) (ma mb : FVec Ideal S128x512 .bf16) (wa wb : FVec Ideal S1024x512 .bf16) (r : Fin 128) (k : Fin 512) :
    mergeMat A N ma mb wa wb (ix2 r k)
      = Ideal.logistic (ma (ix2 r k)) * (∑ c : Fin 1024, A (ix2 r c) * wa (ix2 c k)) + Ideal.logistic (mb (ix2 r k)) * ∑ c : Fin 1024, N (ix2 r c) * wb (ix2 c k) := by
  unfold mergeMat
  pointwise []

/-- Columns of an array, read. -/
theorem columns_apply {m n w : ℕ} {e : EltTy} (x : Vec Ideal (⟨2, ![m, n]⟩ : Shape) e) (p : ℕ)
    (inb : ∀ a, (![0, p] : Fin 2 → ℕ) a + (⟨2, ![m, w]⟩ : Shape).size a ≤ (⟨2, ![m, n]⟩ : Shape).size a) (r : Fin m) (k : Fin w) (hp : p + k.val < n) :
    View.ld x (Rect.unit (s := (⟨2, ![m, n]⟩ : Shape)) ![0, p] (⟨2, ![m, w]⟩ : Shape).size inb) (ix2 r k) = x (ix2 r ⟨p + k.val, hp⟩) := by
  refine congrArg x (funext fun a => Fin.ext ?_)
  fin_cases a
  · show 0 + 1 * r.val = r.val
    omega
  · show p + 1 * k.val = p + k.val
    omega

/-- where they lie. -/
theorem merge_piece (A N : FVec Ideal S128x1024 .bf16) (x0 : Vec Ideal S128x10240 .bf16) (x9 x10 : Vec Ideal S1024x2048 .bf16) (o : ℕ) (ho : o + 512 ≤ 2048)
    (ia : ∀ a, (![0, 6144 + o] : Fin 2 → ℕ) a + S128x512.size a ≤ S128x10240.size a) (ib : ∀ a, (![0, 8192 + o] : Fin 2 → ℕ) a + S128x512.size a ≤ S128x10240.size a)
    (iw : ∀ a, (![0, o] : Fin 2 → ℕ) a + S1024x512.size a ≤ S1024x2048.size a) (io : ∀ a, (![0, o] : Fin 2 → ℕ) a + S128x512.size a ≤ S128x2048.size a)
    (j : S128x512.Idx) :
    mergeMat A N (View.ld x0 (Rect.unit (s := S128x10240) ![0, 6144 + o] S128x512.size ia)) (View.ld x0 (Rect.unit (s := S128x10240) ![0, 8192 + o] S128x512.size ib))
        (View.ld x9 (Rect.unit (s := S1024x2048) ![0, o] S1024x512.size iw)) (View.ld x10 (Rect.unit (s := S1024x2048) ![0, o] S1024x512.size iw)) j
      = mergeOf A N x0 x9 x10 ((Rect.unit (s := S128x2048) ![0, o] S128x512.size io).emb j) := by
  have hk : (j 1).val < 512 := (j 1).isLt
  have hj : j = ix2 (j 0) (j 1) := by
    funext a
    fin_cases a <;> rfl
  have he : (Rect.unit (s := S128x2048) ![0, o] S128x512.size io).emb j = ix2 (j 0) (⟨o + (j 1).val, by omega⟩ : Fin 2048) := by
    funext a
    apply Fin.ext
    fin_cases a
    · show 0 + 1 * (j 0).val = (j 0).val
      omega
    · show o + 1 * (j 1).val = o + (j 1).val
      omega
  rw [he]
  refine (congrArg (mergeMat A N _ _ _ _) hj).trans ((merge_apply A N _ _ _ _ (j 0) (j 1)).trans ?_)
  have hw : ∀ (x : Vec Ideal S1024x2048 .bf16) (c : Fin 1024), View.ld x (Rect.unit (s := S1024x2048) ![0, o] S1024x512.size iw) (ix2 c (j 1))
      = x (ix2 c (⟨o + (j 1).val, by omega⟩ : Fin 2048)) := fun x c => columns_apply x o iw c (j 1) (by omega)
  have ha : View.ld x0 (Rect.unit (s := S128x10240) ![0, 6144 + o] S128x512.size ia) (ix2 (j 0) (j 1)) = x0 (ix2 (j 0) ⟨6144 + (o + (j 1).val), by omega⟩) :=
    (columns_apply x0 (6144 + o) ia (j 0) (j 1) (by omega)).trans (congrArg (fun k => x0 (ix2 (j 0) k)) (Fin.ext (Nat.add_assoc 6144 o (j 1).val)))
  have hb : View.ld x0 (Rect.unit (s := S128x10240) ![0, 8192 + o] S128x512.size ib) (ix2 (j 0) (j 1)) = x0 (ix2 (j 0) ⟨8192 + (o + (j 1).val), by omega⟩) :=
    (columns_apply x0 (8192 + o) ib (j 0) (j 1) (by omega)).trans (congrArg (fun k => x0 (ix2 (j 0) k)) (Fin.ext (Nat.add_assoc 8192 o (j 1).val)))
  exact congrArg₂ (fun a b : EReal => a + b)
    (congrArg₂ (fun a b : EReal => a * b) (congrArg Ideal.logistic ha) (Finset.sum_congr rfl fun c _ => congrArg (fun z : EReal => A (ix2 (j 0) c) * z) (hw x9 c)))
    (congrArg₂ (fun a b : EReal => a * b) (congrArg Ideal.logistic hb) (Finset.sum_congr rfl fun c _ => congrArg (fun z : EReal => N (ix2 (j 0) c) * z) (hw x10 c)))

section
variable (x0 : Vec Ideal S128x10240 .bf16) (x1 : Vec Ideal S128x128 .bf16) (x2 : Vec Ideal S16x4x128x256 .f32) (x3 : Vec Ideal S1x1024 .f32)
    (x4 : Vec Ideal S4x128x128 .f32) (x5 : Vec Ideal S128x4 .f32) (x6 : Vec Ideal S128x512 .bf16) (x7 : Vec Ideal S1x512 .f32)
    (x8 : Vec Ideal S1x1024 .f32) (x9 x10 : Vec Ideal S1024x2048 .bf16)

/-- A head's spatial weights, laid out over the 128 rows; -/
theorem weight_kernel (w : Vec Ideal S1x128x128 .f32) (r s : Fin 128) :
    k0_pay266 (k0_pay329 x0 x1 x2 x3 x4 x5 x6 x7 x8 x9 x10) (k0_pay330 x0 x1 x2 x3 x4 x5 x6 x7 x8 x9 x10) (k0_pay332 x0 x1 x2 x3 x4 x5 x6 x7 x8 x9 x10)
        (k0_pay333 x0 x1 x2 x3 x4 x5 x6 x7 x8 x9 x10) (k0_pay334 x0 x1 x2 x3 x4 x5 x6 x7 x8 x9 x10) w (ix2 r s)
      = if s.val / 8 = r.val / 8 ∧ s.val ≤ r.val then w (ix3 0 ⟨r.val % 8, by omega⟩ ⟨s.val % 8, by omega⟩) else 0 := by
  pointwise [k0_pay266, k0_pay264, k0_pay265, k0_pay329, k0_pay330, k0_pay332, k0_pay333, k0_pay334, k0_pay261, k0_pay262, k0_pay263]
  simp only [order_word, token_word, Ideal.ofBits_one_f32, Ideal.ofBits_zero_f32, ite_mul, mul_ite, mul_one, one_mul, mul_zero, zero_mul, Finset.sum_ite_eq', Finset.sum_ite_eq,
    Finset.mem_univ, if_true]

/-- the biases. -/
theorem bias_kernel (n : Fin 16) (i : Fin 8) (h : Fin 4) :
    k0_pay272 k0_pay270 (k0_pay271 (View.ld x5 r0_74) (View.ld x5 r0_75) (View.ld x5 r0_76) (View.ld x5 r0_77)) 4#32 (View.ld x5 r0_78) (View.ld x5 r0_79)
        (View.ld x5 r0_80) (View.ld x5 r0_81) (ix2 ⟨8 * n.val + i.val, by omega⟩ h) = x5 (ix2 ⟨i.val, by omega⟩ h) := by
  pointwise [k0_pay272, k0_pay271, k0_pay270]
  rw [bias_word n i 7 (by decide), bias_word n i 6 (by decide), bias_word n i 5 (by decide), bias_word n i 4 (by decide), bias_word n i 3 (by decide),
    bias_word n i 2 (by decide), bias_word n i 1 (by decide), bias_word n i 0 (by decide)]
  fin_cases i <;> rfl

/-- A head's weights, read where the body reads them. -/
theorem weight_head (h : Fin 4) (inb : ∀ a, (![h.val, 0, 0] : Fin 3 → ℕ) a + S1x128x128.size a ≤ S4x128x128.size a) (r s : Fin 128) :
    k0_pay266 (k0_pay329 x0 x1 x2 x3 x4 x5 x6 x7 x8 x9 x10) (k0_pay330 x0 x1 x2 x3 x4 x5 x6 x7 x8 x9 x10) (k0_pay332 x0 x1 x2 x3 x4 x5 x6 x7 x8 x9 x10) (k0_pay333 x0 x1 x2 x3 x4 x5 x6 x7 x8 x9 x10) (k0_pay334 x0 x1 x2 x3 x4 x5 x6 x7 x8 x9 x10)
        (View.ld x4 (Rect.unit (s := S4x128x128) ![h.val, 0, 0] S1x128x128.size inb)) (ix2 r s)
      = if s.val / 8 = r.val / 8 ∧ s.val ≤ r.val then x4 (ix3 h ⟨r.val % 8, by omega⟩ ⟨s.val % 8, by omega⟩) else 0 := by
  refine (weight_kernel x0 x1 x2 x3 x4 x5 x6 x7 x8 x9 x10 _ r s).trans (if_congr Iff.rfl (congrArg x4 (funext fun a => Fin.ext ?_)) rfl)
  fin_cases a
  · rfl
  · show 0 + 1 * (r.val % 8) = r.val % 8
    omega
  · show 0 + 1 * (s.val % 8) = s.val % 8
    omega

/-- The first branch; -/
theorem first_kernel (n : Fin 16) (i : Fin 8) (c : Fin 1024) :
    k0_pay339 x0 x1 x2 x3 x4 x5 x6 x7 x8 x9 x10 (ix2 ⟨8 * n.val + i.val, by omega⟩ c)
      = firstAt (fun t k => x0 (ix2 ⟨8 * n.val + t.val, by omega⟩ k)) (fun k => x3 (ix2 0 k)) (fun h t s => x4 (ix3 h ⟨t.val, by omega⟩ ⟨s.val, by omega⟩))
        (fun h t => x5 (ix2 ⟨t.val, by omega⟩ h)) i c := by
  have hv : ∀ s k, k0_pay275 (k0_pay335 x0 x1 x2 x3 x4 x5 x6 x7 x8 x9 x10) (k0_pay336 x0 x1 x2 x3 x4 x5 x6 x7 x8 x9 x10) (ix2 s k) = rowAt x0 x3 s k := by
    intro s k
    pointwise [k0_pay335, k0_pay336, k0_pay275, k0_pay274, k0_pay273]
    rfl
  have hb := bias_kernel x5 n i ⟨c.val / 256, by omega⟩
  have hi : (8 * n.val + i.val) % 8 = i.val := by omega
  show k0_pay337 x0 x1 x2 x3 x4 x5 x6 x7 x8 x9 x10 (ix2 ⟨8 * n.val + i.val, by omega⟩ c) = _
  unfold k0_pay337
  refine Eq.trans (first_heads _ _ _ _ (fun h r s => if s.val / 8 = r.val / 8 ∧ s.val ≤ r.val then x4 (ix3 h ⟨r.val % 8, by omega⟩ ⟨s.val % 8, by omega⟩) else 0)
    (fun r s => Eq.trans (by rfl) (weight_head x0 x1 x2 x3 x4 x5 x6 x7 x8 x9 x10 0 inb_S4x128x128_S1x128x128_0_0_0 r s))
    (fun r s => Eq.trans (by rfl) (weight_head x0 x1 x2 x3 x4 x5 x6 x7 x8 x9 x10 1 inb_S4x128x128_S1x128x128_1_0_0 r s))
    (fun r s => Eq.trans (by rfl) (weight_head x0 x1 x2 x3 x4 x5 x6 x7 x8 x9 x10 2 inb_S4x128x128_S1x128x128_2_0_0 r s))
    (fun r s => Eq.trans (by rfl) (weight_head x0 x1 x2 x3 x4 x5 x6 x7 x8 x9 x10 3 inb_S4x128x128_S1x128x128_3_0_0 r s)) _ _ _ _ _ _ c) ?_
  rw [hb]
  simp only [hv]
  unfold firstAt spatialAt
  refine congrArg₂ (fun a b : EReal => a * b) (congrArg₂ (fun a b : EReal => a * b) ?_ (congrArg (fun z : EReal => z + x5 (ix2 ⟨i.val, by omega⟩ ⟨c.val / 256, by omega⟩)) ?_)) (congrArg siluAt ?_)
  · pointwise []
    done
  · refine Eq.trans (Finset.sum_congr rfl fun s _ => ?_)
      ((entry_sum (fun s => (if s.val ≤ 8 * n.val + i.val then x4 (ix3 ⟨c.val / 256, by omega⟩ ⟨(8 * n.val + i.val) % 8, by omega⟩ ⟨s.val % 8, by omega⟩) else 0)
        * rowAt x0 x3 s ⟨256 * (c.val / 256) + c.val % 256, by omega⟩) n).trans (Finset.sum_congr rfl fun s _ => ?_))
    · show (if s.val / 8 = (8 * n.val + i.val) / 8 ∧ s.val ≤ 8 * n.val + i.val then _ else _) * _ = _
      rw [show (8 * n.val + i.val) / 8 = n.val by omega, ite_and, ite_mul, zero_mul]
    · simp only [Nat.add_le_add_iff_left]
      refine congrArg₂ (fun a b : EReal => a * b) (if_congr Iff.rfl (congrArg₂ (fun a b => x4 (ix3 _ a b)) (Fin.ext hi) (Fin.ext ?_)) rfl) rfl
      show (8 * n.val + s.val) % 8 = s.val
      omega
  · pointwise []
    done

/-- the second; -/
theorem second_kernel (n : Fin 16) (i : Fin 8) (c : Fin 1024) :
    k0_pay340 x0 x1 x2 x3 x4 x5 x6 x7 x8 x9 x10 (ix2 ⟨8 * n.val + i.val, by omega⟩ c)
      = secondAt (fun t k => x0 (ix2 ⟨8 * n.val + t.val, by omega⟩ k)) (fun t j => k0_pay295 x0 x1 x2 x3 x4 x5 x6 x7 x8 x9 x10 (ix2 ⟨8 * n.val + t.val, by omega⟩ j))
        (fun h d e => x2 (ix4 n h d e)) (fun h e => x8 (ix2 0 ⟨256 * h.val + e.val, by omega⟩)) i c := by
  have hn : k0_pay338 x0 x1 x2 x3 x4 x5 x6 x7 x8 x9 x10 (ix2 ⟨8 * n.val + i.val, by omega⟩ c) = _ := norm_heads (k0_pay331 x0 x1 x2 x3 x4 x5 x6 x7 x8 x9 x10) (View.ld x8 r0_83) ⟨8 * n.val + i.val, by omega⟩ c
  have hh : (fun e : Fin 256 => k0_pay331 x0 x1 x2 x3 x4 x5 x6 x7 x8 x9 x10 (ix2 ⟨8 * n.val + i.val, by omega⟩ ⟨256 * (c.val / 256) + e.val, by omega⟩)) = _ :=
    funext fun e => heads_entry x0 x1 x2 x3 x4 x5 x6 x7 x8 x9 x10 n i ⟨c.val / 256, by omega⟩ e
  rw [hh] at hn
  have hg : k0_pay277 (View.ld x8 r0_83) (ix2 0 ⟨256 * (c.val / 256) + c.val % 256, by omega⟩) = x8 (ix2 0 ⟨256 * (c.val / 256) + c.val % 256, by omega⟩) := by
    pointwise [k0_pay277]
  rw [hg] at hn
  have hz : View.ld x0 r0_87 (ix2 ⟨8 * n.val + i.val, by omega⟩ c) = x0 (ix2 ⟨8 * n.val + i.val, by omega⟩ ⟨5120 + c.val, by omega⟩) := columns_apply x0 5120 _ _ c _
  refine Eq.trans (b := k0_pay338 x0 x1 x2 x3 x4 x5 x6 x7 x8 x9 x10 (ix2 ⟨8 * n.val + i.val, by omega⟩ c) * siluAt (View.ld x0 r0_87 (ix2 ⟨8 * n.val + i.val, by omega⟩ c))) (by rfl) ?_
  rw [hn, hz]
  rfl

set_option maxHeartbeats 4000000 in
/-- the two merged, as the body leaves them, -/
theorem out_merge : out0_11 x0 x1 x2 x3 x4 x5 x6 x7 x8 x9 x10 = mergeOf (k0_pay339 x0 x1 x2 x3 x4 x5 x6 x7 x8 x9 x10) (k0_pay340 x0 x1 x2 x3 x4 x5 x6 x7 x8 x9 x10) x0 x9 x10 := by
  have e0 : k0_pay284 (k0_pay337 x0 x1 x2 x3 x4 x5 x6 x7 x8 x9 x10) (View.ld x0 r0_87) (k0_pay338 x0 x1 x2 x3 x4 x5 x6 x7 x8 x9 x10) (View.ld x0 r0_88) (View.ld x0 r0_89) (View.ld x9 r0_90) (View.ld x10 r0_90)
      = mergeMat (k0_pay339 x0 x1 x2 x3 x4 x5 x6 x7 x8 x9 x10) (k0_pay340 x0 x1 x2 x3 x4 x5 x6 x7 x8 x9 x10) (View.ld x0 r0_88) (View.ld x0 r0_89) (View.ld x9 r0_90) (View.ld x10 r0_90) := by
    unfold k0_pay284 k0_pay339 k0_pay340 mergeMat
    rfl
  have e1 : k0_pay285 (k0_pay337 x0 x1 x2 x3 x4 x5 x6 x7 x8 x9 x10) (View.ld x0 r0_87) (k0_pay338 x0 x1 x2 x3 x4 x5 x6 x7 x8 x9 x10) (View.ld x0 r0_92) (View.ld x0 r0_93) (View.ld x9 r0_94) (View.ld x10 r0_94)
      = mergeMat (k0_pay339 x0 x1 x2 x3 x4 x5 x6 x7 x8 x9 x10) (k0_pay340 x0 x1 x2 x3 x4 x5 x6 x7 x8 x9 x10) (View.ld x0 r0_92) (View.ld x0 r0_93) (View.ld x9 r0_94) (View.ld x10 r0_94) := by
    unfold k0_pay285 k0_pay339 k0_pay340 mergeMat
    rfl
  have e2 : k0_pay1 (k0_pay340 x0 x1 x2 x3 x4 x5 x6 x7 x8 x9 x10) (k0_pay286 (View.ld x0 r0_97)) (k0_pay287 (k0_pay339 x0 x1 x2 x3 x4 x5 x6 x7 x8 x9 x10) (View.ld x0 r0_96) (View.ld x9 r0_98)) (View.ld x10 r0_98)
      = mergeMat (k0_pay339 x0 x1 x2 x3 x4 x5 x6 x7 x8 x9 x10) (k0_pay340 x0 x1 x2 x3 x4 x5 x6 x7 x8 x9 x10) (View.ld x0 r0_96) (View.ld x0 r0_97) (View.ld x9 r0_98) (View.ld x10 r0_98) := by
    unfold k0_pay1 k0_pay286 k0_pay287 mergeMat
    rfl
  have e3 : k0_pay2 (k0_pay339 x0 x1 x2 x3 x4 x5 x6 x7 x8 x9 x10) (k0_pay340 x0 x1 x2 x3 x4 x5 x6 x7 x8 x9 x10) (View.ld x0 r0_100) (View.ld x0 r0_101) (View.ld x9 r0_102) (View.ld x10 r0_102)
      = mergeMat (k0_pay339 x0 x1 x2 x3 x4 x5 x6 x7 x8 x9 x10) (k0_pay340 x0 x1 x2 x3 x4 x5 x6 x7 x8 x9 x10) (View.ld x0 r0_100) (View.ld x0 r0_101) (View.ld x9 r0_102) (View.ld x10 r0_102) := by
    unfold k0_pay2 mergeMat
    rfl
  funext y
  unfold out0_11
  rw [e0, e1, e2, e3]
  generalize k0_pay339 x0 x1 x2 x3 x4 x5 x6 x7 x8 x9 x10 = A
  generalize k0_pay340 x0 x1 x2 x3 x4 x5 x6 x7 x8 x9 x10 = N
  refine View.canon_apply_of_pieces _ _ (View.PiecesOf.mem ?_) y (cover0_11 _ _ _ _ y)
  repeat' apply And.intro
  all_goals first
    | exact trivial
    | exact fun j => merge_piece _ _ x0 x9 x10 1536 (by decide) inb_S128x10240_S128x512_0_7680 inb_S128x10240_S128x512_0_9728 inb_S1024x2048_S1024x512_0_1536 inb_S128x2048_S128x512_0_1536 j
    | exact fun j => merge_piece _ _ x0 x9 x10 1024 (by decide) inb_S128x10240_S128x512_0_7168 inb_S128x10240_S128x512_0_9216 inb_S1024x2048_S1024x512_0_1024 inb_S128x2048_S128x512_0_1024 j
    | exact fun j => merge_piece _ _ x0 x9 x10 512 (by decide) inb_S128x10240_S128x512_0_6656 inb_S128x10240_S128x512_0_8704 inb_S1024x2048_S1024x512_0_512 inb_S128x2048_S128x512_0_512 j
    | exact fun j => merge_piece _ _ x0 x9 x10 0 (by decide) inb_S128x10240_S128x512_0_6144 inb_S128x10240_S128x512_0_8192 inb_S1024x2048_S1024x512_0_0 inb_S128x2048_S128x512_0_0 j

/-- at an entry's row. -/
theorem merge_entry (n : Fin 16) (i : Fin 8) (k : Fin 2048) :
    out0_11 x0 x1 x2 x3 x4 x5 x6 x7 x8 x9 x10 (ix2 ⟨8 * n.val + i.val, by omega⟩ k)
      = mergeAt (fun t k => x0 (ix2 ⟨8 * n.val + t.val, by omega⟩ k)) (fun t j => k0_pay295 x0 x1 x2 x3 x4 x5 x6 x7 x8 x9 x10 (ix2 ⟨8 * n.val + t.val, by omega⟩ j))
        (fun h d e => x2 (ix4 n h d e)) (fun k => x3 (ix2 0 k)) (fun h t s => x4 (ix3 h ⟨t.val, by omega⟩ ⟨s.val, by omega⟩))
        (fun h t => x5 (ix2 ⟨t.val, by omega⟩ h)) (fun h e => x8 (ix2 0 ⟨256 * h.val + e.val, by omega⟩)) (fun c k => x9 (ix2 c k)) (fun c k => x10 (ix2 c k)) i k := by
  rw [out_merge]
  have ha := first_kernel x0 x1 x2 x3 x4 x5 x6 x7 x8 x9 x10 n i
  have hb := second_kernel x0 x1 x2 x3 x4 x5 x6 x7 x8 x9 x10 n i
  exact congrArg₂ (fun a b : EReal => a + b)
    (congrArg (fun z : EReal => Ideal.logistic _ * z) (Finset.sum_congr rfl fun c _ => congrArg (fun z : EReal => z * x9 (ix2 c k)) (ha c)))
    (congrArg (fun z : EReal => Ideal.logistic _ * z) (Finset.sum_congr rfl fun c _ => congrArg (fun z : EReal => z * x10 (ix2 c k)) (hb c)))
end

end Cert.Mix

end
-- ==== Proof.MixValue.lean ====
/- What the decoded rows' three result arrays hold after the run. -/
module

public import proofs.«01_k».proof.Proof.MixMergeReference
public import proofs.«01_k».proof.Proof.MixBranches
public import proofs.«01_k».proof.Proof.Gen.Kernel4
public import proofs.«01_k».proof.Proof.Gen.Kernel4.Frame
public import proofs.«01_k».proof.Proof.Gen.Reference4Ideal.Run
public import Idealize.ShloMosaic.Lib.Pipeline.ValueKit
public import Idealize.ShloMosaic.Lib.StableHlo.ReadAt

@[expose] public section

set_option maxRecDepth 16384

noncomputable section

namespace Cert.Mix

open Idealize.ShloMosaic Idealize.ShloMosaic.TcCoe Idealize.SL.Sem
open Cert.Kernel4Ideal Cert.Kernel4Ideal.Gen Cert.Reference4Ideal.Read
open Idealize.ShloMosaic.Pipeline (Dat Cfg Window)

variable (m : (ℓ : Loc nD τ sig) → Buf (Elt Ideal) ℓ) (c : Dev nD)

/-- The arguments read: the projections, the old state, the scale, the gate's weights and bias, the spatial weights and biases, the heads' gains, the merge's weights. -/
abbrev argP : FVec Ideal S1024x10240 .bf16 := m ((c : Thread nD τ).loc main_arg0)
abbrev argA : FVec Ideal S1024x128 .bf16 := m ((c : Thread nD τ).loc main_arg1)
abbrev argS : FVec Ideal S1x128x4x128x256 .f32 := m ((c : Thread nD τ).loc main_arg2)
abbrev argG : FVec Ideal S1x1024 .f32 := m ((c : Thread nD τ).loc main_arg3)
abbrev argW : FVec Ideal S1x16x512 .f32 := m ((c : Thread nD τ).loc main_arg6)
abbrev argB : FVec Ideal S1x512 .f32 := m ((c : Thread nD τ).loc main_arg7)
abbrev argM : FVec Ideal S1x4x128x128 .f32 := m ((c : Thread nD τ).loc main_arg4)
abbrev argC : FVec Ideal S1x4x128 .f32 := m ((c : Thread nD τ).loc main_arg5)
abbrev argO : FVec Ideal S1x4x256 .f32 := m ((c : Thread nD τ).loc main_arg8)
abbrev argX : FVec Ideal S1024x2048 .bf16 := m ((c : Thread nD τ).loc main_arg9)
abbrev argY : FVec Ideal S1024x2048 .bf16 := m ((c : Thread nD τ).loc main_arg10)

/-! ## The arrays the region finds -/

/-- The state without its leading axis; -/
theorem V_state (b : Fin 128) (h : Fin 4) (d : Fin 128) (e : Fin 256) : V m c main_v20 (ix4 b h d e) = argS m c (ix5 0 b h d e) := by
  unfold V; after_reads_at
/-- the scale, as a row; -/
theorem V_gain (k : Fin 1024) : V m c main_v10 (ix2 0 k) = argG m c (ix2 0 k) := by
  unfold V; after_reads_at
/-- the gate's weights, rows of zeros below; -/
theorem V_gate (l : Fin 16) (j : Fin 512) : V m c main_v4 (ix2 ⟨l.val, by omega⟩ j) = argW m c (ix3 0 l j) := by
  have e : V m c main_v4 = (truncf .bf16 (concatenate S128x512 0 [⟨S16x512, shapeCast S16x512 (argW m c) shapeCasts_S1x16x512_S16x512⟩,
      ⟨S112x512, broadcastInDim S112x512 ![] bcast_S_S112x512 (constant (F := Ideal) S_ .f32 0x00000000#32)⟩]
      concatenates_S16x512_S112x512_S128x512_d0) bitsLt_bf16_f32 : FVec Ideal S128x512 .bf16) := by
    unfold V; after_results_simp; rfl
  rw [e]
  pointwise []
/-- its bias, as a row; -/
theorem V_bias (j : Fin 512) : V m c main_v15 (ix2 0 j) = argB m c (ix2 0 j) := by
  unfold V; after_reads_at
/-- the spatial weights; -/
theorem V_spatial (h : Fin 4) (r s : Fin 128) : V m c main_v11 (ix3 h r s) = argM m c (ix4 0 h r s) := by
  unfold V; after_reads_at
/-- their biases, a token a row; -/
theorem V_offset (r : Fin 128) (h : Fin 4) : V m c main_v13 (ix2 r h) = argC m c (ix3 0 h r) := by
  unfold V; after_reads_at
/-- the heads' gains, as a row. -/
theorem V_scale (h : Fin 4) (e : Fin 256) : V m c main_v17 (ix2 0 ⟨256 * h.val + e.val, by omega⟩) = argO m c (ix3 0 h e) := by
  have q : V m c main_v17 = shapeCast S1x1024 (shapeCast S4x256 (argO m c) shapeCasts_S1x4x256_S4x256) shapeCasts_S4x256_S1x1024 := by
    unfold V; after_results_simp; rfl
  rw [q]
  pointwise []

/-! ## The input blocks -/

/-- The windows of rows and of states follow the grid; the weights' stay. -/
theorem index_rows : ∀ t : Fin grid0.N, win0_0.index t = ![t.val, 0] ∧ win0_1.index t = ![t.val, 0] ∧ win0_12.index t = ![t.val, 0] := by decide +kernel
theorem index_state : ∀ t : Fin grid0.N, win0_2.index t = ![t.val, 0, 0, 0] ∧ win0_13.index t = ![t.val, 0, 0, 0] := by decide +kernel
theorem index_fixed : ∀ t : Fin grid0.N, win0_3.index t = ![0, 0] ∧ win0_6.index t = ![0, 0] ∧ win0_7.index t = ![0, 0] := by decide +kernel
theorem index_more : ∀ t : Fin grid0.N, win0_4.index t = ![0, 0, 0] ∧ win0_5.index t = ![0, 0] ∧ win0_8.index t = ![0, 0] ∧ win0_9.index t = ![0, 0]
    ∧ win0_10.index t = ![0, 0] ∧ win0_11.index t = ![t.val, 0] := by decide +kernel

section
variable (t : Fin cfg0.N)

theorem block_p (r : Fin 128) (k : Fin 10240) (R : Fin 1024) (hR : R.val = t.val * 128 + r.val) : iblk m c 0 t (ix2 r k) = argP m c (ix2 R k) := by
  rw [show argP m c = V m c main_arg0 from (V_main_arg0 m c).symm]
  show V m c main_arg0 ((win0_0.rect t).emb (ix2 r k)) = _
  congr 1; funext a; apply Fin.ext
  rw [Window.rect_emb_val_off, (index_rows t).1]
  fin_cases a
  · exact hR.symm
  · show 0 * 10240 + k.val = k.val
    omega
theorem block_a (r : Fin 128) (k : Fin 128) (R : Fin 1024) (hR : R.val = t.val * 128 + r.val) : iblk m c 1 t (ix2 r k) = argA m c (ix2 R k) := by
  rw [show argA m c = V m c main_arg1 from (V_main_arg1 m c).symm]
  show V m c main_arg1 ((win0_1.rect t).emb (ix2 r k)) = _
  congr 1; funext a; apply Fin.ext
  rw [Window.rect_emb_val_off, (index_rows t).2.1]
  fin_cases a
  · exact hR.symm
  · show 0 * 128 + k.val = k.val
    omega
theorem block_s (n : Fin 16) (h : Fin 4) (d : Fin 128) (e : Fin 256) (b : Fin 128) (hb : b.val = t.val * 16 + n.val) :
    iblk m c 2 t (ix4 n h d e) = argS m c (ix5 0 b h d e) := by
  rw [← V_state]
  show V m c main_v20 ((win0_2.rect t).emb (ix4 n h d e)) = _
  congr 1; funext a; apply Fin.ext
  rw [Window.rect_emb_val_off, (index_state t).1]
  fin_cases a
  · exact hb.symm
  · show 0 * 4 + h.val = h.val
    omega
  · show 0 * 128 + d.val = d.val
    omega
  · show 0 * 256 + e.val = e.val
    omega
theorem block_g (k : Fin 1024) : iblk m c 3 t (ix2 0 k) = argG m c (ix2 0 k) := by
  rw [← V_gain]
  show V m c main_v10 ((win0_3.rect t).emb (ix2 0 k)) = _
  congr 1; funext a; apply Fin.ext
  rw [Window.rect_emb_val_off, (index_fixed t).1]
  fin_cases a
  · rfl
  · show 0 * 1024 + k.val = k.val
    omega
theorem block_w (l : Fin 16) (j : Fin 512) : iblk m c 6 t (ix2 ⟨l.val, by omega⟩ j) = argW m c (ix3 0 l j) := by
  rw [← V_gate]
  show V m c main_v4 ((win0_6.rect t).emb (ix2 ⟨l.val, by omega⟩ j)) = _
  congr 1; funext a; apply Fin.ext
  rw [Window.rect_emb_val_off, (index_fixed t).2.1]
  fin_cases a
  · show 0 * 128 + l.val = l.val
    omega
  · show 0 * 512 + j.val = j.val
    omega
theorem block_b (j : Fin 512) : iblk m c 7 t (ix2 0 j) = argB m c (ix2 0 j) := by
  rw [← V_bias]
  show V m c main_v15 ((win0_7.rect t).emb (ix2 0 j)) = _
  congr 1; funext a; apply Fin.ext
  rw [Window.rect_emb_val_off, (index_fixed t).2.2]
  fin_cases a
  · rfl
  · show 0 * 512 + j.val = j.val
    omega

theorem block_m (h : Fin 4) (r s : Fin 128) : iblk m c 4 t (ix3 h r s) = argM m c (ix4 0 h r s) := by
  rw [← V_spatial]
  show V m c main_v11 ((win0_4.rect t).emb (ix3 h r s)) = _
  congr 1; funext a; apply Fin.ext
  rw [Window.rect_emb_val_off, (index_more t).1]
  fin_cases a
  · show 0 * 4 + h.val = h.val
    omega
  · show 0 * 128 + r.val = r.val
    omega
  · show 0 * 128 + s.val = s.val
    omega
theorem block_c (r : Fin 128) (h : Fin 4) : iblk m c 5 t (ix2 r h) = argC m c (ix3 0 h r) := by
  rw [← V_offset]
  show V m c main_v13 ((win0_5.rect t).emb (ix2 r h)) = _
  congr 1; funext a; apply Fin.ext
  rw [Window.rect_emb_val_off, (index_more t).2.1]
  fin_cases a
  · show 0 * 128 + r.val = r.val
    omega
  · show 0 * 4 + h.val = h.val
    omega
theorem block_o (h : Fin 4) (e : Fin 256) : iblk m c 8 t (ix2 0 ⟨256 * h.val + e.val, by omega⟩) = argO m c (ix3 0 h e) := by
  rw [← V_scale]
  show V m c main_v17 ((win0_8.rect t).emb (ix2 0 ⟨256 * h.val + e.val, by omega⟩)) = _
  congr 1; funext a; apply Fin.ext
  rw [Window.rect_emb_val_off, (index_more t).2.2.1]
  fin_cases a
  · rfl
  · show 0 * 1024 + (256 * h.val + e.val) = (256 * h.val + e.val)
    omega
theorem block_x (r : Fin 1024) (k : Fin 2048) : iblk m c 9 t (ix2 r k) = argX m c (ix2 r k) := by
  rw [show argX m c = V m c main_arg9 from (V_main_arg9 m c).symm]
  show V m c main_arg9 ((win0_9.rect t).emb (ix2 r k)) = _
  congr 1; funext a; apply Fin.ext
  rw [Window.rect_emb_val_off, (index_more t).2.2.2.1]
  fin_cases a
  · show 0 * 1024 + r.val = r.val
    omega
  · show 0 * 2048 + k.val = k.val
    omega
theorem block_y (r : Fin 1024) (k : Fin 2048) : iblk m c 10 t (ix2 r k) = argY m c (ix2 r k) := by
  rw [show argY m c = V m c main_arg10 from (V_main_arg10 m c).symm]
  show V m c main_arg10 ((win0_10.rect t).emb (ix2 r k)) = _
  congr 1; funext a; apply Fin.ext
  rw [Window.rect_emb_val_off, (index_more t).2.2.2.2.1]
  fin_cases a
  · show 0 * 1024 + r.val = r.val
    omega
  · show 0 * 2048 + k.val = k.val
    omega

/-- A sum over the lanes restricted to the first sixteen is a sum over sixteen. -/
theorem lane_sum (f : Fin 128 → EReal) : (∑ l : Fin 128, if l.val < 16 then f l else 0) = ∑ l : Fin 16, f ⟨l.val, by omega⟩ := by
  rw [← Finset.sum_filter]
  refine Finset.sum_bij' (fun s hs => ⟨s.val, (Finset.mem_filter.1 hs).2⟩) (fun i _ => ⟨i.val, by omega⟩) ?_ ?_ ?_ ?_ ?_
  · intro s _; exact Finset.mem_univ _
  · intro i _; exact Finset.mem_filter.2 ⟨Finset.mem_univ _, i.isLt⟩
  · intro s _; rfl
  · intro i _; rfl
  · intro s _; rfl

/-- So a gate's argument is the reference's, -/
theorem gate_eq (r : Fin 128) (j : Fin 512) (R : Fin 1024) (hR : R.val = t.val * 128 + r.val) (J : Fin 512) (hJ : J = j) :
    gateAt (iblk m c 1 t) (iblk m c 6 t) (iblk m c 7 t) r j = gateRef (argA m c) (argW m c) (argB m c) R J := by
  subst hJ
  unfold gateAt gateRef
  refine congrArg₂ (fun a b : EReal => a + b) ((lane_sum _).trans ?_) (block_b m c t J)
  exact Finset.sum_congr rfl fun l _ => congrArg₂ (fun a b : EReal => a * b) (block_a m c t r _ R hR) (block_w m c t l J)
/-- and so is a normalised gate row. -/
theorem row_eq (r : Fin 128) (k : Fin 1024) (R : Fin 1024) (hR : R.val = t.val * 128 + r.val) :
    rowAt (iblk m c 0 t) (iblk m c 3 t) r k = rowAt (argP m c) (argG m c) R k := by
  unfold rowAt
  simp only [block_p m c t r _ R hR, block_g]
end

/-! ## The result arrays -/

theorem final_rows : (dats m 0 c).arrAt 12 cfg0.N = val_main_v17 (F := Ideal) (argP m c) (argG m c) := by
  refine (dats m 0 c).arrAt_eq_of_covers 12 _ (by decide +kernel) fun t _ y => ?_
  blk_simp
  rw [after0_12]
  obtain ⟨r, k, rfl⟩ : ∃ (r : Fin 128) (k : Fin 1024), y = ix2 r k := ⟨y 0, y 1, eq_ix2 y⟩
  have ht : t.val < 8 := lt_of_lt_of_eq t.isLt N_0
  have hr := r.isLt
  have e : (win0_12.blk t).view.emb (ix2 r k) = (ix2 ⟨t.val * 128 + r.val, by omega⟩ k : S1024x1024.Idx) := by
    show (win0_12.rect t).emb (ix2 r k) = _
    funext a; apply Fin.ext
    rw [Window.rect_emb_val_off, (index_rows t).2.2]
    fin_cases a
    · rfl
    · show 0 * 1024 + k.val = k.val
      omega
  rw [e]
  exact (out_rows _ _ _ _ _ _ _ _ _ _ _ r k).trans ((row_eq m c t r k ⟨t.val * 128 + r.val, by omega⟩ rfl).trans (rows_reference _ _ _ k).symm)

set_option maxHeartbeats 1600000 in
theorem final_state : (dats m 0 c).arrAt 13 cfg0.N = val_main_v67 (F := Ideal) (argP m c) (argA m c) (argS m c) (argW m c) (argB m c) := by
  refine (dats m 0 c).arrAt_eq_of_covers 13 _ (by decide +kernel) fun t _ y => ?_
  blk_simp
  rw [after0_13]
  obtain ⟨n, h, d, e, rfl⟩ : ∃ (n : Fin 16) (h : Fin 4) (d : Fin 128) (e : Fin 256), y = ix4 n h d e := ⟨y 0, y 1, y 2, y 3, eq_ix4 y⟩
  have ht : t.val < 8 := lt_of_lt_of_eq t.isLt N_0
  have hn := n.isLt
  have hh := h.isLt
  have hd := d.isLt
  have he := e.isLt
  have ee : (win0_13.blk t).view.emb (ix4 n h d e) = (ix4 ⟨t.val * 16 + n.val, by omega⟩ h d e : S128x4x128x256.Idx) := by
    show (win0_13.rect t).emb (ix4 n h d e) = _
    funext a; apply Fin.ext
    rw [Window.rect_emb_val_off, (index_state t).2]
    fin_cases a
    · rfl
    · show 0 * 4 + h.val = h.val
      omega
    · show 0 * 128 + d.val = d.val
      omega
    · show 0 * 256 + e.val = e.val
      omega
  rw [ee, out_state]
  show stateAt _ _ _ _ n h d e = _
  rw [state_entry, state_reference]
  have hD : (fun k : Fin 8 => decayAt (gateAt (iblk m c 1 t) (iblk m c 6 t) (iblk m c 7 t) ⟨8 * n.val + k.val, by omega⟩ ⟨128 * h.val + d.val, by omega⟩))
      = fun s => decayAt (gateRef (argA m c) (argW m c) (argB m c) ⟨(t.val * 16 + n.val) * 8 + s.val, by omega⟩ ⟨h.val * 128 + d.val, by omega⟩) :=
    funext fun k => congrArg decayAt (gate_eq m c t _ _ _ (by show (t.val * 16 + n.val) * 8 + k.val = t.val * 128 + (8 * n.val + k.val); omega) _
      (Fin.ext (by show h.val * 128 + d.val = 128 * h.val + d.val; omega)))
  rw [hD]
  generalize (fun s : Fin 8 => decayAt (gateRef (argA m c) (argW m c) (argB m c) ⟨(t.val * 16 + n.val) * 8 + s.val, _⟩ ⟨h.val * 128 + d.val, _⟩)) = D
  have hp : ∀ (i : Fin 8) (k K : Fin 10240), K.val = k.val → iblk m c 0 t (ix2 ⟨8 * n.val + i.val, by omega⟩ k) = argP m c (ix2 ⟨(t.val * 16 + n.val) * 8 + i.val, by omega⟩ K) := by
    intro i k K hk
    rw [show K = k from Fin.ext hk]
    exact block_p m c t _ _ _ (by show (t.val * 16 + n.val) * 8 + i.val = t.val * 128 + (8 * n.val + i.val); omega)
  exact congrArg₂ (fun a b : EReal => Ideal.exp (runAt D 7) * a + b) (block_s m c t n h d e _ rfl)
    (Finset.sum_congr rfl fun i _ => congrArg₂ (fun a b : EReal => a * Ideal.exp (runAt D 7 - runAt D i) * b)
      (hp i _ _ (by show 3584 + (h.val * 128 + d.val) = 3584 + (128 * h.val + d.val); omega))
      (hp i _ _ (by show 4096 + (h.val * 256 + e.val) = 4096 + (256 * h.val + e.val); omega)))

/-- Equal rows, decays, state and weights merge to equal branches. -/
theorem merge_congr {P P' : Fin 8 → Fin 10240 → EReal} {B B' : Fin 8 → Fin 512 → EReal} {S S' : Fin 4 → Fin 128 → Fin 256 → EReal} {G G' : Fin 1024 → EReal}
    {W W' : Fin 4 → Fin 8 → Fin 8 → EReal} {C C' : Fin 4 → Fin 8 → EReal} {O O' : Fin 4 → Fin 256 → EReal} {X X' Y Y' : Fin 1024 → Fin 2048 → EReal}
    (hP : ∀ t k, P t k = P' t k) (hB : ∀ t j, B t j = B' t j) (hS : ∀ h d e, S h d e = S' h d e) (hG : ∀ k, G k = G' k) (hW : ∀ h t s, W h t s = W' h t s)
    (hC : ∀ h t, C h t = C' h t) (hO : ∀ h e, O h e = O' h e) (hX : ∀ k l, X k l = X' k l) (hY : ∀ k l, Y k l = Y' k l) (t : Fin 8) (k : Fin 2048) :
    mergeAt P B S G W C O X Y t k = mergeAt P' B' S' G' W' C' O' X' Y' t k := by
  rw [show P = P' from funext₂ hP, show B = B' from funext₂ hB, show S = S' from funext₃ hS, show G = G' from funext hG, show W = W' from funext₃ hW,
    show C = C' from funext₂ hC, show O = O' from funext₂ hO, show X = X' from funext₂ hX, show Y = Y' from funext₂ hY]

set_option maxHeartbeats 1600000 in
theorem final_merge : (dats m 0 c).arrAt 11 cfg0.N = val_main_v128 (F := Ideal) (argP m c) (argA m c) (argS m c) (argG m c) (argM m c) (argC m c) (argW m c) (argB m c) (argO m c) (argX m c) (argY m c) := by
  refine (dats m 0 c).arrAt_eq_of_covers 11 _ (by decide +kernel) fun t _ y => ?_
  blk_simp
  rw [after0_11]
  obtain ⟨r, k, rfl⟩ : ∃ (r : Fin 128) (k : Fin 2048), y = ix2 r k := ⟨y 0, y 1, eq_ix2 y⟩
  obtain ⟨n, i, rfl⟩ : ∃ (n : Fin 16) (i : Fin 8), r = ⟨8 * n.val + i.val, by omega⟩ :=
    ⟨⟨r.val / 8, by omega⟩, ⟨r.val % 8, by omega⟩, Fin.ext (by show r.val = 8 * (r.val / 8) + r.val % 8; omega)⟩
  have ht : t.val < 8 := lt_of_lt_of_eq t.isLt N_0
  have hn := n.isLt
  have hi := i.isLt
  have e : (win0_11.blk t).view.emb (ix2 ⟨8 * n.val + i.val, by omega⟩ k) = (ix2 ⟨(t.val * 16 + n.val) * 8 + i.val, by omega⟩ k : S1024x2048.Idx) := by
    show (win0_11.rect t).emb (ix2 ⟨8 * n.val + i.val, by omega⟩ k) = _
    funext a; apply Fin.ext
    rw [Window.rect_emb_val_off, (index_more t).2.2.2.2.2]
    fin_cases a
    · show t.val * 128 + (8 * n.val + i.val) = (t.val * 16 + n.val) * 8 + i.val
      omega
    · show 0 * 2048 + k.val = k.val
      omega
  rw [e]
  refine (merge_entry _ _ _ _ _ _ _ _ _ _ _ n i k).trans (Eq.trans ?_ (merge_reference _ _ _ _ _ _ _ _ _ _ _ ⟨t.val * 16 + n.val, by omega⟩ i k).symm)
  have hR : ∀ s : Fin 8, (t.val * 16 + n.val) * 8 + s.val = t.val * 128 + (8 * n.val + s.val) := fun s => by omega
  refine merge_congr ?_ ?_ ?_ ?_ ?_ ?_ ?_ ?_ ?_ i k
  · exact fun s l => block_p m c t _ l _ (hR s)
  · intro s j
    rw [running_entry]
    exact congrFun (congrArg runAt (funext fun l => congrArg decayAt (gate_eq m c t _ j _ (hR l) j rfl))) s
  · exact fun h d e => block_s m c t n h d e _ rfl
  · exact fun l => block_g m c t l
  · exact fun h a b => block_m m c t h _ _
  · exact fun h a => block_c m c t _ h
  · exact fun h e => block_o m c t h e
  · exact fun a b => block_x m c t a b
  · exact fun a b => block_y m c t a b

/-- The whole run, read: the three results are the reference's, the arguments are unchanged. -/
theorem values (ρ : Dev nD → PrngReg) : θ_run defs (onTc (τ := τ) (main (F := Ideal))) ⟨m, fun _ => 0, ρ⟩ (fun r => ∀ c : Dev nD,
      r.2.mem ((c.tc : Thread nD τ).loc main_v21_0) = val_main_v128 (F := Ideal) (argP m c) (argA m c) (argS m c) (argG m c) (argM m c) (argC m c) (argW m c) (argB m c) (argO m c) (argX m c) (argY m c)
      ∧ r.2.mem ((c.tc : Thread nD τ).loc main_v21_1) = val_main_v17 (F := Ideal) (argP m c) (argG m c)
      ∧ r.2.mem ((c.tc : Thread nD τ).loc main_v21_2) = val_main_v67 (F := Ideal) (argP m c) (argA m c) (argS m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h.1 c).1 11).trans (final_merge m c), ((h.1 c).1 12).trans (final_rows m c), ((h.1 c).1 13).trans (final_state m c), h.2.1 c⟩)
    (θ_run_and (run_main m ρ) (Gen.frame m ρ))

end Cert.Mix

end
-- ==== Proof.PromptRun.lean ====
/- The prompt projection's pipeline: what its body leaves in every buffer at every grid point, and the run of the whole
   program — its outputs named, its arguments unchanged, its counters at zero — at any float values. -/
module

public import proofs.«01_k».proof.Proof.Gen.Kernel3Ideal.Frame
public import proofs.«01_k».proof.Proof.Gen.Kernel3Ideal.Skeleton
public import proofs.«01_k».proof.Proof.Gen.Kernel3
public import proofs.«01_k».proof.Proof.Gen.Reference3Ideal
public import proofs.«01_k».proof.Proof.Whole
public import proofs.«01_k».proof.Proof.Kept
public import Idealize.ShloMosaic.Lib.Claim
public import Idealize.ShloMosaic.Lib.Pipeline.Value

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One tile of the projection: the normalised rows against one block of weight rows. -/
def tile (x0 : Vec F S1024x2048 .f32) (x1 : Vec F S1x2048 .f32) (x2 : Vec F S2048x2048 .bf16) : FVec F S1024x2048 .bf16 :=
  k0_pay1 x2 (k0_pay3 x0 x1) (constant S1024x2048 .f32 0x00000000#32)

/-- The side projection: the normalised rows against the 128 side rows of the weights. -/
abbrev side (x0 : Vec F S1024x2048 .f32) (x1 : Vec F S1x2048 .f32) (x3 : Vec F S128x2048 .bf16) : FVec F S1024x128 .bf16 :=
  k0_pay4 x0 x1 x3

/-- The body's one condition holds at the first point of each block of rows. -/
theorem first_iff : ∀ t : Fin cfg0.N, k0_cond1 (grid0.coords t) = 1#1 ↔ t.val % 5 = 0 :=
  (by decide +kernel : ∀ t : Fin grid0.N, k0_cond1 (grid0.coords t) = 1#1 ↔ t.val % 5 = 0)

/-- The body at the first point of a block of rows: it normalises the rows into the scratch, projects them on the side rows,
    does the first tile and rounds one block of each side weight. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S16x2048 .f32) (harg10 : arg10.IsWhole) (arg11 : Memref sig .tc .vmem S1024x2048 .bf16) (harg11 : arg11.IsWhole) (arg12 : Memref sig .tc .vmem S1024x128 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S16x2048 .bf16) (harg17 : arg17.IsWhole) (arg18 : Memref sig .tc .vmem S1024x2048 .bf16) (harg18 : arg18.IsWhole) (hc0 : k0_cond1 i = 1#1)
    (x0 : Vec F S1024x2048 .f32) (x1 : Vec F S1x2048 .f32) (x2 : Vec F S2048x2048 .bf16) (x3 : Vec F S128x2048 .bf16) (x4 : Vec F S32x2048 .f32) (x5 : Vec F S32x2048 .f32) (x6 : Vec F S64x2048 .f32) (x7 : Vec F S64x2048 .f32) (x8 : Vec F S16x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (tile x0 x1 x2) ∗ owns (c : Thread nD τ) arg12 fullShare (side x0 x1 x3) ∗ owns (c : Thread nD τ) arg13 fullShare (k0_pay5 x4) ∗ owns (c : Thread nD τ) arg14 fullShare (k0_pay6 x5) ∗ owns (c : Thread nD τ) arg15 fullShare (k0_pay7 x6) ∗ owns (c : Thread nD τ) arg16 fullShare (k0_pay8 x7) ∗ owns (c : Thread nD τ) arg17 fullShare (k0_pay9 x8) ∗ owns (c : Thread nD τ) arg18 fullShare (k0_pay3 x0 x1)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_inproj_eq_skeleton]; unfold cc0_inproj_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, Hk⟩
  subst hf0 hf1 hf2 hf3 hf4 hf5 hf6 hf7 hf8
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro
    refine (Whole.read_store _ Whole.zero₂ _ _ _).trans ?_
    dsimp only
    exact congrArg₂ (fun a b => k0_pay1 a b (constant S1024x2048 .f32 0x00000000#32)) (Whole.load _ Whole.zero₂ _ _) ((View.readCov_unit_zero _ Whole.zero₂ _ _).trans (congrArg₂ k0_pay3 (Whole.load _ Whole.zero₂ _ _) (Whole.load _ Whole.zero₂ _ _)))
  isplitl [H10]
  · iexists _; isplitr; swap; · iexact H10
    ipureintro
    exact (Whole.read_store _ Whole.zero₂ _ _ _).trans (by rw [Whole.load _ Whole.zero₂ _ _, Whole.load _ Whole.zero₂ _ _, Whole.load _ Whole.zero₂ _ _])
  isplitl [H11]
  · iexists _; isplitr; swap; · iexact H11
    ipureintro
    exact (Whole.read_store _ Whole.zero₂ _ _ _).trans (congrArg k0_pay5 (Whole.load _ Whole.zero₂ _ _))
  isplitl [H12]
  · iexists _; isplitr; swap; · iexact H12
    ipureintro
    exact (Whole.read_store _ Whole.zero₂ _ _ _).trans (congrArg k0_pay6 (Whole.load _ Whole.zero₂ _ _))
  isplitl [H13]
  · iexists _; isplitr; swap; · iexact H13
    ipureintro
    exact (Whole.read_store _ Whole.zero₂ _ _ _).trans (congrArg k0_pay7 (Whole.load _ Whole.zero₂ _ _))
  isplitl [H14]
  · iexists _; isplitr; swap; · iexact H14
    ipureintro
    exact (Whole.read_store _ Whole.zero₂ _ _ _).trans (congrArg k0_pay8 (Whole.load _ Whole.zero₂ _ _))
  isplitl [H15]
  · iexists _; isplitr; swap; · iexact H15
    ipureintro
    exact (Whole.read_store _ Whole.zero₂ _ _ _).trans (congrArg k0_pay9 (Whole.load _ Whole.zero₂ _ _))
  iexists _; isplitr; swap; · iexact HS0
  ipureintro
  exact (Whole.read_store _ Whole.zero₂ _ _ _).trans (congrArg₂ k0_pay3 (Whole.load _ Whole.zero₂ _ _) (Whole.load _ Whole.zero₂ _ _))

/-- The body at a later point: one tile, from the rows the scratch keeps, and one block of each side weight rounded. -/
theorem body_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S16x2048 .f32) (harg10 : arg10.IsWhole) (arg11 : Memref sig .tc .vmem S1024x2048 .bf16) (harg11 : arg11.IsWhole) (arg12 : Memref sig .tc .vmem S1024x128 .bf16) (harg12 : arg12.IsWhole) (arg13 : Memref sig .tc .vmem S32x2048 .bf16) (harg13 : arg13.IsWhole) (arg14 : Memref sig .tc .vmem S32x2048 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S16x2048 .bf16) (harg17 : arg17.IsWhole) (arg18 : Memref sig .tc .vmem S1024x2048 .bf16) (harg18 : arg18.IsWhole) (hc0 : ¬ k0_cond1 i = 1#1)
    (x0 : Vec F S1024x2048 .f32) (x1 : Vec F S1x2048 .f32) (x2 : Vec F S2048x2048 .bf16) (x4 : Vec F S32x2048 .f32) (x5 : Vec F S32x2048 .f32) (x6 : Vec F S64x2048 .f32) (x7 : Vec F S64x2048 .f32) (x8 : Vec F S16x2048 .f32)
    (E : Set ℕ) (K : PUnit → sProp 𝕄) :
    iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (k0_pay3 x0 x1)
        ∗ (iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (tile x0 x1 x2) ∗ owns (c : Thread nD τ) arg13 fullShare (k0_pay5 x4) ∗ owns (c : Thread nD τ) arg14 fullShare (k0_pay6 x5) ∗ owns (c : Thread nD τ) arg15 fullShare (k0_pay7 x6) ∗ owns (c : Thread nD τ) arg16 fullShare (k0_pay8 x7) ∗ owns (c : Thread nD τ) arg17 fullShare (k0_pay9 x8) ∗ owns (c : Thread nD τ) arg18 fullShare (k0_pay3 x0 x1)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_inproj_eq_skeleton]; unfold cc0_inproj_skel
  simp only [k0_part1_eq_skeleton]; unfold k0_part1_skel
  unfold owns
  iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d11, %f11, -, H11⟩, ⟨%d12, %f12, -, H12⟩, ⟨%d13, %f13, -, H13⟩, ⟨%d14, %f14, -, H14⟩, ⟨%d15, %f15, -, H15⟩, ⟨%fs0, %hs0, HS0⟩, Hk⟩
  subst hf2 hf4 hf5 hf6 hf7 hf8
  sl_exec (disch := first | sl_exact hc0)
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro
    refine (Whole.read_store _ Whole.zero₂ _ _ _).trans ?_
    dsimp only
    exact congrArg₂ (fun a b => k0_pay1 a b (constant S1024x2048 .f32 0x00000000#32)) (Whole.load _ Whole.zero₂ _ _) ((Whole.load _ Whole.zero₂ _ _).trans hs0)
  isplitl [H11]
  · iexists _; isplitr; swap; · iexact H11
    ipureintro
    exact (Whole.read_store _ Whole.zero₂ _ _ _).trans (congrArg k0_pay5 (Whole.load _ Whole.zero₂ _ _))
  isplitl [H12]
  · iexists _; isplitr; swap; · iexact H12
    ipureintro
    exact (Whole.read_store _ Whole.zero₂ _ _ _).trans (congrArg k0_pay6 (Whole.load _ Whole.zero₂ _ _))
  isplitl [H13]
  · iexists _; isplitr; swap; · iexact H13
    ipureintro
    exact (Whole.read_store _ Whole.zero₂ _ _ _).trans (congrArg k0_pay7 (Whole.load _ Whole.zero₂ _ _))
  isplitl [H14]
  · iexists _; isplitr; swap; · iexact H14
    ipureintro
    exact (Whole.read_store _ Whole.zero₂ _ _ _).trans (congrArg k0_pay8 (Whole.load _ Whole.zero₂ _ _))
  isplitl [H15]
  · iexists _; isplitr; swap; · iexact H15
    ipureintro
    exact (Whole.read_store _ Whole.zero₂ _ _ _).trans (congrArg k0_pay9 (Whole.load _ Whole.zero₂ _ _))
  iexists fs0; isplitr; · ipureintro; exact hs0
  iexact HS0

/-! ## What the run leaves at every point -/

variable (m : (ℓ : Loc nD τ sig) → Buf (Elt F) ℓ) (ρ : Dev nD → PrngReg)

/-- The first point of the block of rows that point `n` is in. -/
def lead (n : ℕ) : Fin cfg0.N := ⟨n / 5 * 5 % 40, lt_of_lt_of_eq (Nat.mod_lt _ (by decide)) N_0.symm⟩

/-- A block's first point leads it, -/
theorem lead_first (t : Fin cfg0.N) (h : t.val % 5 = 0) : lead t.val = t := by
  have hN : t.val < 40 := lt_of_lt_of_eq t.isLt (show cfg0.N = 40 from N_0)
  refine Fin.ext ?_
  unfold lead
  dsimp only
  omega

/-- and a later point is led as the one before it. -/
theorem lead_later (n : ℕ) (h : n % 5 ≠ 0) : lead (n - 1) = lead n := by
  refine Fin.ext ?_
  unfold lead
  dsimp only
  omega

/-- The normalised rows of the block that the point `l` leads. -/
def normed (c : Dev nD) (l : Fin cfg0.N) : Vec F S1024x2048 .bf16 := k0_pay3 (iblk m c 0 l) (iblk m c 1 l)

/-- The scratch between points: before the first, anything; afterwards, the normalised rows of the block just visited. -/
def carried (c : Dev nD) (n : ℕ) : sProp 𝕄 :=
  iprop(iprop((∃ d, ⌜n ≠ 0 → d = normed m c (lead (n - 1))⌝ ∗ owns (c : Thread nD τ) (Memref.whole cc0_scratch0) fullShare d)) ∗ (∃ r, prngReg c r))

/-- What each buffer holds after the body, and the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => tile (iblk m c 0 (lead t.val)) (iblk m c 1 (lead t.val)) (iblk m c 2 t)
    | ⟨10, _⟩ => side (iblk m c 0 (lead t.val)) (iblk m c 1 (lead t.val)) (iblk m c 3 (lead t.val))
    | ⟨11, _⟩ => k0_pay5 (iblk m c 4 t)
    | ⟨12, _⟩ => k0_pay6 (iblk m c 5 t)
    | ⟨13, _⟩ => k0_pay7 (iblk m c 6 t)
    | ⟨14, _⟩ => k0_pay8 (iblk m c 7 t)
    | ⟨15, _⟩ => k0_pay9 (iblk m c 8 t)
    | ⟨n + 16, h⟩ => absurd h (Nat.not_lt.2 (Nat.le_add_left 16 n))
  Φ t := carried m c t.val
  q _ := fullShare
  owed _ := 0

/-- The arrays are those the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = tile (iblk m c 0 (lead t.val)) (iblk m c 1 (lead t.val)) (iblk m c 2 t) := by dsimp only [dats]
theorem after_10 (c : Dev nD) (t : Fin cfg0.N) : (dats m 0 c).after 10 t = side (iblk m c 0 (lead t.val)) (iblk m c 1 (lead t.val)) (iblk m c 3 (lead t.val)) := by dsimp only [dats]
theorem after_11 (c : Dev nD) (t : Fin cfg0.N) : (dats m 0 c).after 11 t = k0_pay5 (iblk m c 4 t) := by dsimp only [dats]
theorem after_12 (c : Dev nD) (t : Fin cfg0.N) : (dats m 0 c).after 12 t = k0_pay6 (iblk m c 5 t) := by dsimp only [dats]
theorem after_13 (c : Dev nD) (t : Fin cfg0.N) : (dats m 0 c).after 13 t = k0_pay7 (iblk m c 6 t) := by dsimp only [dats]
theorem after_14 (c : Dev nD) (t : Fin cfg0.N) : (dats m 0 c).after 14 t = k0_pay8 (iblk m c 7 t) := by dsimp only [dats]
theorem after_15 (c : Dev nD) (t : Fin cfg0.N) : (dats m 0 c).after 15 t = k0_pay9 (iblk m c 8 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The side projection's output is stored at the first point of each block of rows, -/
theorem live_10 (t : Fin cfg0.N) (h : t.val % 5 = 0) : cfg0.idle 10 (cfg0.grid.coords t) = false := by
  show (!(k0_cond1 (grid0.coords t) == 1#1)) = false
  rw [(first_iff t).mpr h]; rfl

/-- and written back at the last, so not just before a later point. -/
theorem unflushed_10 (t : Fin cfg0.N) (h : t.val % 5 ≠ 0) : (cfg0.win 10).flush (Kept.prev t) = false :=
  Bool.eq_false_iff.mpr fun e => by
    have := (flush0_10 _).mp e
    unfold Kept.prev at this; dsimp only at this; omega

/-- What is left in its buffer is the same along a block, -/
theorem constant_10 (c : Dev nD) (t : Fin cfg0.N) (h : t.val % 5 ≠ 0) : (dats m 0 c).after 10 t = (dats m 0 c).after 10 (Kept.prev t) := by
  rw [after_10, after_10, show lead (Kept.prev t).val = lead t.val from lead_later t.val h]

/-- so at a later point the buffer holds the first point's result, -/
theorem before_10 (c : Dev nD) (t : Fin cfg0.N) (h : t.val % 5 ≠ 0) (d) : (dats m 0 c).before 10 t d = (dats m 0 c).after 10 t :=
  Kept.before_eq_after (dats m 0 c) 10 5 rfl (fun _ _ => rfl) unflushed_10 live_10 (constant_10 m c) t.val t rfl h d

/-- and that is what every point hands back. -/
theorem leaves_10 (c : Dev nD) (t : Fin cfg0.N) :
    (owns (c : Thread nD τ) (win0_10.stage (cfg0.slots t 10)) fullShare ((dats m 0 c).after 10 t) : sProp 𝕄) ⊢ (dats m 0 c).leavesExact 10 t :=
  Kept.leaves_of_after (dats m 0 c) 10 5 live_10 (before_10 m c) t

/-- The scratch as the program declares it, at some contents, beside the generator's register. -/
theorem scratch_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 4000000 in
/-- The body takes the one to the other: at a block's first point by `body_first`, at a later one by `body_later`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.castSucc = carried m c t.val from rfl, show (dats m 0 c).Φ t.succ = carried m c (t.val + 1) from rfl]
  unfold carried
  rw [show (dats m 0 c).leavesExact 0 t = owns (c : Thread nD τ) (win0_0.stage (cfg0.slots t 0)) fullShare ((dats m 0 c).after 0 t) from rfl,
    after_0]
  rw [show (dats m 0 c).leavesExact 1 t = owns (c : Thread nD τ) (win0_1.stage (cfg0.slots t 1)) fullShare ((dats m 0 c).after 1 t) from rfl,
    after_1]
  rw [show (dats m 0 c).leavesExact 2 t = owns (c : Thread nD τ) (win0_2.stage (cfg0.slots t 2)) fullShare ((dats m 0 c).after 2 t) from rfl,
    after_2]
  rw [show (dats m 0 c).leavesExact 3 t = owns (c : Thread nD τ) (win0_3.stage (cfg0.slots t 3)) fullShare ((dats m 0 c).after 3 t) from rfl,
    after_3]
  rw [show (dats m 0 c).leavesExact 4 t = owns (c : Thread nD τ) (win0_4.stage (cfg0.slots t 4)) fullShare ((dats m 0 c).after 4 t) from rfl,
    after_4]
  rw [show (dats m 0 c).leavesExact 5 t = owns (c : Thread nD τ) (win0_5.stage (cfg0.slots t 5)) fullShare ((dats m 0 c).after 5 t) from rfl,
    after_5]
  rw [show (dats m 0 c).leavesExact 6 t = owns (c : Thread nD τ) (win0_6.stage (cfg0.slots t 6)) fullShare ((dats m 0 c).after 6 t) from rfl,
    after_6]
  rw [show (dats m 0 c).leavesExact 7 t = owns (c : Thread nD τ) (win0_7.stage (cfg0.slots t 7)) fullShare ((dats m 0 c).after 7 t) from rfl,
    after_7]
  rw [show (dats m 0 c).leavesExact 8 t = owns (c : Thread nD τ) (win0_8.stage (cfg0.slots t 8)) fullShare ((dats m 0 c).after 8 t) from rfl,
    after_8]
  rw [show (dats m 0 c).leavesExact 9 t = owns (c : Thread nD τ) (win0_9.stage (cfg0.slots t 9)) fullShare ((dats m 0 c).after 9 t) from rfl,
    after_9]
  rw [show (dats m 0 c).leavesExact 11 t = owns (c : Thread nD τ) (win0_11.stage (cfg0.slots t 11)) fullShare ((dats m 0 c).after 11 t) from rfl,
    after_11]
  rw [show (dats m 0 c).leavesExact 12 t = owns (c : Thread nD τ) (win0_12.stage (cfg0.slots t 12)) fullShare ((dats m 0 c).after 12 t) from rfl,
    after_12]
  rw [show (dats m 0 c).leavesExact 13 t = owns (c : Thread nD τ) (win0_13.stage (cfg0.slots t 13)) fullShare ((dats m 0 c).after 13 t) from rfl,
    after_13]
  rw [show (dats m 0 c).leavesExact 14 t = owns (c : Thread nD τ) (win0_14.stage (cfg0.slots t 14)) fullShare ((dats m 0 c).after 14 t) from rfl,
    after_14]
  rw [show (dats m 0 c).leavesExact 15 t = owns (c : Thread nD τ) (win0_15.stage (cfg0.slots t 15)) fullShare ((dats m 0 c).after 15 t) from rfl,
    after_15]
  by_cases h0 : t.val % 5 = 0
  · have hl : lead t.val = t := lead_first t h0
    rw [hl]
    iintro ⟨⟨⟨%ds, -, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (body_first c (grid0.coords t) _ _ _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    iintro ⟨H0, H1, H2, H3, H4, H5, H6, H7, H8, H9, H10, H11, H12, H13, H14, H15, HS0⟩
    isplitl [HS0 Hg]
    · isplitl [HS0]
      · iexists _; isplitr; swap; · iexact HS0
        ipureintro; intro _; exact (congrArg (normed m c) hl).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves_10 m c t); rw [after_10, hl]; iexact H10
    isplitl [H11]; · iexact H11
    isplitl [H12]; · iexact H12
    isplitl [H13]; · iexact H13
    isplitl [H14]; · iexact H14
    iexact H15
  · have ht0 : t.val ≠ 0 := fun h => h0 (by rw [h])
    simp only [before_10 m c t h0]
    iintro ⟨⟨⟨%ds, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    obtain rfl := (hs ht0).trans (congrArg (normed m c) (lead_later t.val h0))
    iapply (body_later c (grid0.coords t) _ (hstage0_0 ((cfg0.slots t 0).cast nbuf0_0)) _ (hstage0_1 ((cfg0.slots t 1).cast nbuf0_1)) _ _ _ (hstage0_3 ((cfg0.slots t 3).cast nbuf0_3)) _ _ _ _ _ _ _ _ _ _ _ _ _ (hstage0_10 ((cfg0.slots t 10).cast nbuf0_10)) _ _ _ _ _ _ _ _ _ _ _ _ (fun h => h0 ((first_iff t).mp h)) (iblk m c 0 (lead t.val)) (iblk m c 1 (lead t.val)) (iblk m c 2 t) (iblk m c 4 t) (iblk m c 5 t) (iblk m c 6 t) (iblk m c 7 t) (iblk m c 8 t) Set.univ _)
    isplitl [H2]; · iexact H2
    isplitl [H4]; · iexact H4
    isplitl [H5]; · iexact H5
    isplitl [H6]; · iexact H6
    isplitl [H7]; · iexact H7
    isplitl [H8]; · iexact H8
    isplitl [H9]; · iexists _; iexact H9
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    iintro ⟨H2, H4, H5, H6, H7, H8, H9, H11, H12, H13, H14, H15, HS0⟩
    isplitl [HS0 Hg]
    · isplitl [HS0]
      · iexists _; isplitr; swap; · iexact HS0
        ipureintro; intro _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves_10 m c t); iexact H10
    isplitl [H11]; · iexact H11
    isplitl [H12]; · iexact H12
    isplitl [H13]; · iexact H13
    isplitl [H14]; · iexact H14
    iexact H15

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every array of the pipeline ends as the data say, every other buffer as the region found it, every counter
    at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (show Pipeline.ΦA spec0 c ⊢ carried m c 0 from by
      rw [scratch_eq]; unfold carried
      iintro ⟨⟨%d, HS⟩, Hg⟩
      isplitl [HS]
      · iexists d; isplitr; · ipureintro; intro h; exact absurd rfl h
        iexact HS
      iexact Hg))
    (hout := fun c => (show carried m c 40 ⊢ Pipeline.ΦA spec0 c from by
      rw [scratch_eq]; unfold carried
      iintro ⟨⟨%d, -, HS⟩, Hg⟩
      isplitl [HS]
      · iexists d; iexact HS
      iexact Hg))

/-- The program ends with its arguments as launched and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Kernel3Ideal.Gen

end
-- ==== Proof.PromptAlgebra.lean ====
/- The prompt projection, block by block, read at an index: the kernel's tiles and the reference's arrays are the same sums. -/
module

public import proofs.«01_k».proof.Proof.PromptRun
public import proofs.«01_k».proof.Proof.InAlgebra
public import proofs.«01_k».proof.Proof.Gen.Reference3Ideal.Read
public import Idealize.ShloMosaic.Lib.Pointwise

@[expose] public section

set_option maxRecDepth 16384

noncomputable section

namespace Cert.Prompt

open Idealize.ShloMosaic Idealize.ShloMosaic.TcCoe
open Cert.Kernel3Ideal Cert.Kernel3Ideal.Gen Cert.Reference3Ideal.Read
open Cert.Sample (normAt)

/-- The kernel's normalised rows, as they are projected on the side rows -/
theorem norm_kernel (x0 : Vec Ideal S1024x2048 .f32) (x1 : Vec Ideal S1x2048 .f32) (r : Fin 1024) (k : Fin 2048) :
    k0_pay2 x0 x1 (ix2 r k) = normAt x0 x1 r k := by
  pointwise [k0_pay2]; rfl

/-- and as they are kept; -/
theorem norm_kept (x0 : Vec Ideal S1024x2048 .f32) (x1 : Vec Ideal S1x2048 .f32) (r : Fin 1024) (k : Fin 2048) :
    k0_pay3 x0 x1 (ix2 r k) = normAt x0 x1 r k := by
  pointwise [k0_pay3]
  exact norm_kernel x0 x1 r k

/-- the reference's. -/
theorem norm_reference (x0 : FVec Ideal S4x2048x2048 .f32) (x1 : FVec Ideal S1x2048 .f32) (r : Fin 8192) (k : Fin 2048) :
    val_main_v14 (F := Ideal) x0 x1 (ix2 r k) = normAt (val_main_v0 (F := Ideal) x0) x1 r k := by
  pointwise [val_main_v14, val_main_v13, val_main_v12, val_main_v11, val_main_v10, val_main_v9, val_main_v8, val_main_v7, val_main_v6,
    val_main_v5, val_main_v4, val_main_v3, val_main_v2, val_main_v1, val_main_cst, val_main_cst_0, val_main_cst_1]
  rfl

/-- A tile at an index: one normalised row against one row of the block of weights. -/
theorem tile_apply (x0 : Vec Ideal S1024x2048 .f32) (x1 : Vec Ideal S1x2048 .f32) (x2 : Vec Ideal S2048x2048 .bf16) (r : Fin 1024) (l : Fin 2048) :
    tile x0 x1 x2 (ix2 r l) = ∑ k, normAt x0 x1 r k * x2 (ix2 l k) := by
  pointwise [tile, k0_pay1]
  simp only [norm_kept]

/-- The side projection at an index. -/
theorem side_apply (x0 : Vec Ideal S1024x2048 .f32) (x1 : Vec Ideal S1x2048 .f32) (x3 : Vec Ideal S128x2048 .bf16) (r : Fin 1024) (l : Fin 128) :
    side x0 x1 x3 (ix2 r l) = ∑ k, normAt x0 x1 r k * x3 (ix2 l k) := by
  pointwise [k0_pay4]
  simp only [norm_kernel]

/-- The reference's projection at an index, -/
theorem main_reference (x0 : FVec Ideal S4x2048x2048 .f32) (x1 : FVec Ideal S1x2048 .f32) (x2 : FVec Ideal S10240x2048 .bf16) (r : Fin 8192) (n : Fin 10240) :
    val_main_v18 (F := Ideal) x0 x1 x2 (ix2 r n) = ∑ k, normAt (val_main_v0 (F := Ideal) x0) x1 r k * x2 (ix2 n k) := by
  pointwise [val_main_v18, val_main_v17, val_main_v16, val_main_v15]
  simp only [norm_reference]

/-- and its side projection. -/
theorem side_reference (x0 : FVec Ideal S4x2048x2048 .f32) (x1 : FVec Ideal S1x2048 .f32) (x3 : FVec Ideal S128x2048 .bf16) (r : Fin 8192) (l : Fin 128) :
    val_main_v22 (F := Ideal) x0 x1 x3 (ix2 r l) = ∑ k, normAt (val_main_v0 (F := Ideal) x0) x1 r k * x3 (ix2 l k) := by
  pointwise [val_main_v22, val_main_v21, val_main_v20, val_main_v19]
  simp only [norm_reference]

end Cert.Prompt

end
-- ==== Proof.PromptValue.lean ====
/- What the seven result arrays of the prompt projection hold after the run. -/
module

public import proofs.«01_k».proof.Proof.PromptAlgebra
public import Idealize.ShloMosaic.Lib.Pipeline.ValueKit
public import Idealize.ShloMosaic.Lib.StableHlo.ReadAt

@[expose] public section

set_option maxRecDepth 16384

noncomputable section

namespace Cert.Prompt

open Idealize.ShloMosaic Idealize.ShloMosaic.TcCoe Idealize.SL.Sem
open Cert.Kernel3Ideal Cert.Kernel3Ideal.Gen Cert.Reference3Ideal.Read
open Idealize.ShloMosaic.Pipeline (Dat Cfg Window)
open Cert.Sample (normAt)

variable (m : (ℓ : Loc nD τ sig) → Buf (Elt Ideal) ℓ) (c : Dev nD)

/-- The nine arguments. -/
abbrev argX : FVec Ideal S4x2048x2048 .f32 := m ((c : Thread nD τ).loc main_arg0)
abbrev argG : FVec Ideal S1x2048 .f32 := m ((c : Thread nD τ).loc main_arg1)
abbrev argW : FVec Ideal S10240x2048 .bf16 := m ((c : Thread nD τ).loc main_arg2)
abbrev argWa : FVec Ideal S128x2048 .bf16 := m ((c : Thread nD τ).loc main_arg3)
abbrev argPa : FVec Ideal S1x1024x2048 .f32 := m ((c : Thread nD τ).loc main_arg4)
abbrev argPb : FVec Ideal S1x1024x2048 .f32 := m ((c : Thread nD τ).loc main_arg5)
abbrev argO : FVec Ideal S1x2048x2048 .f32 := m ((c : Thread nD τ).loc main_arg6)
abbrev argPg : FVec Ideal S1x2048x2048 .f32 := m ((c : Thread nD τ).loc main_arg7)
abbrev argPe : FVec Ideal S1x256x2048 .f32 := m ((c : Thread nD τ).loc main_arg8)

/-! ## The arrays the region finds -/

/-- The rows, flattened; -/
theorem V_rows : V m c main_v0 = val_main_v0 (F := Ideal) (argX m c) := by
  unfold V; after_results_simp; rfl
/-- the scale, as a row; -/
theorem V_gain (k : Fin 2048) : V m c main_v2 (ix2 0 k) = argG m c (ix2 0 k) := by
  unfold V; after_reads_at
/-- the side weights: over the extended reals, what the reference returns of them. -/
theorem V_pa : V m c main_v3 = val_main_v24 (F := Ideal) (argPa m c) := by
  unfold V; after_results_simp; rfl
theorem V_pb : V m c main_v4 = val_main_v26 (F := Ideal) (argPb m c) := by
  unfold V; after_results_simp; rfl
theorem V_o : V m c main_v5 = val_main_v28 (F := Ideal) (argO m c) := by
  unfold V; after_results_simp; rfl
theorem V_pg : V m c main_v6 = val_main_v30 (F := Ideal) (argPg m c) := by
  unfold V; after_results_simp; rfl
theorem V_pe : V m c main_v7 = val_main_v32 (F := Ideal) (argPe m c) := by
  unfold V; after_results_simp; rfl

/-! ## The input blocks -/

/-- The windows follow the grid: the rows' by its first coordinate, the weights' by its second. -/
theorem index_rows : ∀ t : Fin grid0.N, win0_0.index t = ![t.val / 5, 0] ∧ win0_10.index t = ![t.val / 5, 0] := by decide +kernel
theorem index_weights : ∀ t : Fin grid0.N, win0_2.index t = ![t.val % 5, 0] := by decide +kernel
theorem index_fixed : ∀ t : Fin grid0.N, win0_1.index t = ![0, 0] ∧ win0_3.index t = ![0, 0] := by decide +kernel
theorem index_main : ∀ t : Fin grid0.N, win0_9.index t = ![t.val / 5, t.val % 5] := by decide +kernel

/-- A block is led by a point of the same rows. -/
theorem lead_rows (t : Fin cfg0.N) : (lead t.val).val / 5 = t.val / 5 := by
  have ht : t.val < 40 := lt_of_lt_of_eq t.isLt N_0
  unfold lead
  dsimp only
  omega

section
variable (t : Fin cfg0.N)

theorem block_x (r : Fin 1024) (k : Fin 2048) (R : Fin 8192) (hR : R.val = t.val / 5 * 1024 + r.val) :
    iblk m c 0 (lead t.val) (ix2 r k) = val_main_v0 (F := Ideal) (argX m c) (ix2 R k) := by
  rw [← V_rows]
  show V m c main_v0 ((win0_0.rect (lead t.val)).emb (ix2 r k)) = _
  congr 1; funext a; apply Fin.ext
  rw [Window.rect_emb_val_off, (index_rows _).1, lead_rows]
  fin_cases a
  · exact hR.symm
  · show 0 * 2048 + k.val = k.val
    omega
theorem block_g (k : Fin 2048) : iblk m c 1 t (ix2 0 k) = argG m c (ix2 0 k) := by
  rw [← V_gain]
  show V m c main_v2 ((win0_1.rect t).emb (ix2 0 k)) = _
  congr 1; funext a; apply Fin.ext
  rw [Window.rect_emb_val_off, (index_fixed t).1]
  fin_cases a
  · rfl
  · show 0 * 2048 + k.val = k.val
    omega
theorem block_w (l k : Fin 2048) (n : Fin 10240) (hn : n.val = t.val % 5 * 2048 + l.val) : iblk m c 2 t (ix2 l k) = argW m c (ix2 n k) := by
  rw [show argW m c = V m c main_arg2 from (V_main_arg2 m c).symm]
  show V m c main_arg2 ((win0_2.rect t).emb (ix2 l k)) = _
  congr 1; funext a; apply Fin.ext
  rw [Window.rect_emb_val_off, index_weights]
  fin_cases a
  · exact hn.symm
  · show 0 * 2048 + k.val = k.val
    omega
theorem block_wa (l : Fin 128) (k : Fin 2048) : iblk m c 3 t (ix2 l k) = argWa m c (ix2 l k) := by
  rw [show argWa m c = V m c main_arg3 from (V_main_arg3 m c).symm]
  show V m c main_arg3 ((win0_3.rect t).emb (ix2 l k)) = _
  congr 1; funext a; apply Fin.ext
  rw [Window.rect_emb_val_off, (index_fixed t).2]
  fin_cases a
  · show 0 * 128 + l.val = l.val
    omega
  · show 0 * 2048 + k.val = k.val
    omega

/-- So the normalised rows are the reference's. -/
theorem norm_eq (r : Fin 1024) (k : Fin 2048) (R : Fin 8192) (hR : R.val = t.val / 5 * 1024 + r.val) :
    normAt (iblk m c 0 (lead t.val)) (iblk m c 1 (lead t.val)) r k = normAt (val_main_v0 (F := Ideal) (argX m c)) (argG m c) R k := by
  unfold normAt
  simp only [block_x m c t r _ R hR, block_g]
end

/-! ## The result arrays -/

theorem final_main : (dats m 0 c).arrAt 9 cfg0.N = val_main_v18 (F := Ideal) (argX m c) (argG m c) (argW m c) := by
  refine (dats m 0 c).arrAt_eq_of_covers 9 _ (by decide +kernel) fun t _ y => ?_
  blk_simp
  rw [after_9]
  obtain ⟨r, l, rfl⟩ : ∃ (r : Fin 1024) (l : Fin 2048), y = ix2 r l := ⟨y 0, y 1, eq_ix2 y⟩
  have ht : t.val < 40 := lt_of_lt_of_eq t.isLt N_0
  have hr := r.isLt
  have hl := l.isLt
  have e : (win0_9.blk t).view.emb (ix2 r l) = (ix2 ⟨t.val / 5 * 1024 + r.val, by omega⟩ ⟨t.val % 5 * 2048 + l.val, by omega⟩ : S8192x10240.Idx) := by
    show (win0_9.rect t).emb (ix2 r l) = _
    funext a; apply Fin.ext
    rw [Window.rect_emb_val_off, index_main]
    fin_cases a <;> rfl
  rw [e]
  refine (tile_apply _ _ _ r l).trans (Eq.trans ?_ (main_reference _ _ _ _ _).symm)
  exact Finset.sum_congr rfl fun k _ => by rw [norm_eq m c t r k ⟨t.val / 5 * 1024 + r.val, by omega⟩ rfl, block_w m c t l k ⟨t.val % 5 * 2048 + l.val, by omega⟩ rfl]

theorem final_side : (dats m 0 c).arrAt 10 cfg0.N = val_main_v22 (F := Ideal) (argX m c) (argG m c) (argWa m c) := by
  refine (dats m 0 c).arrAt_eq_of_covers 10 _ (by decide +kernel) fun t _ y => ?_
  blk_simp
  rw [after_10]
  obtain ⟨r, l, rfl⟩ : ∃ (r : Fin 1024) (l : Fin 128), y = ix2 r l := ⟨y 0, y 1, eq_ix2 y⟩
  have ht : t.val < 40 := lt_of_lt_of_eq t.isLt N_0
  have hr := r.isLt
  have e : (win0_10.blk t).view.emb (ix2 r l) = (ix2 ⟨t.val / 5 * 1024 + r.val, by omega⟩ l : S8192x128.Idx) := by
    show (win0_10.rect t).emb (ix2 r l) = _
    funext a; apply Fin.ext
    rw [Window.rect_emb_val_off, (index_rows t).2]
    fin_cases a
    · rfl
    · show 0 * 128 + l.val = l.val
      omega
  rw [e]
  refine (side_apply _ _ _ r l).trans (Eq.trans ?_ (side_reference _ _ _ _ _).symm)
  exact Finset.sum_congr rfl fun k _ => by rw [norm_eq m c t r k ⟨t.val / 5 * 1024 + r.val, by omega⟩ rfl, block_wa]

/-- The rounded side weights: each point copies one block, over the extended reals unchanged. -/
theorem final_pa : (dats m 0 c).arrAt 11 cfg0.N = val_main_v24 (F := Ideal) (argPa m c) := by
  rw [← V_pa]
  refine (dats m 0 c).arrAt_eq_of_covers 11 _ (by decide +kernel) fun t _ y => ?_
  blk_simp
  rw [after_11]
  obtain ⟨l, k, rfl⟩ : ∃ (l : Fin 32) (k : Fin 2048), y = ix2 l k := ⟨y 0, y 1, eq_ix2 y⟩
  refine Eq.trans (by pointwise [k0_pay5]; rfl) (show V m c main_v3 ((win0_4.rect t).emb (ix2 l k)) = V m c main_v3 ((win0_11.rect t).emb (ix2 l k)) from ?_)
  congr 1
theorem final_pb : (dats m 0 c).arrAt 12 cfg0.N = val_main_v26 (F := Ideal) (argPb m c) := by
  rw [← V_pb]
  refine (dats m 0 c).arrAt_eq_of_covers 12 _ (by decide +kernel) fun t _ y => ?_
  blk_simp
  rw [after_12]
  obtain ⟨l, k, rfl⟩ : ∃ (l : Fin 32) (k : Fin 2048), y = ix2 l k := ⟨y 0, y 1, eq_ix2 y⟩
  refine Eq.trans (by pointwise [k0_pay6]; rfl) (show V m c main_v4 ((win0_5.rect t).emb (ix2 l k)) = V m c main_v4 ((win0_12.rect t).emb (ix2 l k)) from ?_)
  congr 1
theorem final_o : (dats m 0 c).arrAt 13 cfg0.N = val_main_v28 (F := Ideal) (argO m c) := by
  rw [← V_o]
  refine (dats m 0 c).arrAt_eq_of_covers 13 _ (by decide +kernel) fun t _ y => ?_
  blk_simp
  rw [after_13]
  obtain ⟨l, k, rfl⟩ : ∃ (l : Fin 64) (k : Fin 2048), y = ix2 l k := ⟨y 0, y 1, eq_ix2 y⟩
  refine Eq.trans (by pointwise [k0_pay7]; rfl) (show V m c main_v5 ((win0_6.rect t).emb (ix2 l k)) = V m c main_v5 ((win0_13.rect t).emb (ix2 l k)) from ?_)
  congr 1
theorem final_pg : (dats m 0 c).arrAt 14 cfg0.N = val_main_v30 (F := Ideal) (argPg m c) := by
  rw [← V_pg]
  refine (dats m 0 c).arrAt_eq_of_covers 14 _ (by decide +kernel) fun t _ y => ?_
  blk_simp
  rw [after_14]
  obtain ⟨l, k, rfl⟩ : ∃ (l : Fin 64) (k : Fin 2048), y = ix2 l k := ⟨y 0, y 1, eq_ix2 y⟩
  refine Eq.trans (by pointwise [k0_pay8]; rfl) (show V m c main_v6 ((win0_7.rect t).emb (ix2 l k)) = V m c main_v6 ((win0_14.rect t).emb (ix2 l k)) from ?_)
  congr 1
theorem final_pe : (dats m 0 c).arrAt 15 cfg0.N = val_main_v32 (F := Ideal) (argPe m c) := by
  rw [← V_pe]
  refine (dats m 0 c).arrAt_eq_of_covers 15 _ (by decide +kernel) fun t _ y => ?_
  blk_simp
  rw [after_15]
  obtain ⟨l, k, rfl⟩ : ∃ (l : Fin 16) (k : Fin 2048), y = ix2 l k := ⟨y 0, y 1, eq_ix2 y⟩
  refine Eq.trans (by pointwise [k0_pay9]; rfl) (show V m c main_v7 ((win0_8.rect t).emb (ix2 l k)) = V m c main_v7 ((win0_15.rect t).emb (ix2 l k)) from ?_)
  congr 1

/-- The whole run, read: the seven results are the reference's, the arguments are unchanged. -/
theorem values (ρ : Dev nD → PrngReg) : θ_run defs (onTc (τ := τ) (main (F := Ideal))) ⟨m, fun _ => 0, ρ⟩ (fun r => ∀ c : Dev nD,
      r.2.mem ((c.tc : Thread nD τ).loc main_v8_0) = val_main_v18 (F := Ideal) (argX m c) (argG m c) (argW m c)
      ∧ r.2.mem ((c.tc : Thread nD τ).loc main_v8_1) = val_main_v22 (F := Ideal) (argX m c) (argG m c) (argWa m c)
      ∧ r.2.mem ((c.tc : Thread nD τ).loc main_v8_2) = val_main_v24 (F := Ideal) (argPa m c)
      ∧ r.2.mem ((c.tc : Thread nD τ).loc main_v8_3) = val_main_v26 (F := Ideal) (argPb m c)
      ∧ r.2.mem ((c.tc : Thread nD τ).loc main_v8_4) = val_main_v28 (F := Ideal) (argO m c)
      ∧ r.2.mem ((c.tc : Thread nD τ).loc main_v8_5) = val_main_v30 (F := Ideal) (argPg m c)
      ∧ r.2.mem ((c.tc : Thread nD τ).loc main_v8_6) = val_main_v32 (F := Ideal) (argPe m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1.1 c).1 9).trans (final_main m c), ((h.1.1 c).1 10).trans (final_side m c), ((h.1.1 c).1 11).trans (final_pa m c), ((h.1.1 c).1 12).trans (final_pb m c), ((h.1.1 c).1 13).trans (final_o m c), ((h.1.1 c).1 14).trans (final_pg m c), ((h.1.1 c).1 15).trans (final_pe m c), h.2.1 c⟩)
    (θ_run_and (run m ρ) (Gen.frame m ρ))

end Cert.Prompt

end
-- ==== Proof.PromptFrame.lean ====
/- The prompt projection's two programs have one text: the frame at bit patterns is the run at any floats, taken there. -/
module

public import proofs.«01_k».proof.Defs
public import proofs.«01_k».proof.Proof.Gen.Kernel3
public import proofs.«01_k».proof.Proof.PromptRun

@[expose] public section

noncomputable section

namespace Cert.Prompt

open Idealize.ShloMosaic Idealize.SL.Sem

set_option maxRecDepth 16384 in
/-- The body's first part is one text in both programs, -/
theorem parts_same : Cert.Kernel3.k0_part1 (F := Bits) = Cert.Kernel3Ideal.k0_part1 (F := Bits) := by
  unfold Cert.Kernel3.k0_part1 Cert.Kernel3Ideal.k0_part1
  rfl
/-- and so is the body around it; -/
theorem body_same : Cert.Kernel3.cc0_inproj (F := Bits) = Cert.Kernel3Ideal.cc0_inproj (F := Bits) := by
  unfold Cert.Kernel3.cc0_inproj Cert.Kernel3Ideal.cc0_inproj
  rw [parts_same]
  rfl
set_option maxHeartbeats 8000000 in
/-- the two programs call it, -/
theorem bodies_same : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) =>
    show Cert.Kernel3.cc0_inproj (F := Bits) _ _ _ _ _ _ _ _ _ _ _ _ _ _ _ _ _ _ _ _ _ _ _ _ _ _ _ _ _ _ _ _ _ _ _ = Cert.Kernel3Ideal.cc0_inproj (F := Bits) _ _ _ _ _ _ _ _ _ _ _ _ _ _ _ _ _ _ _ _ _ _ _ _ _ _ _ _ _ _ _ _ _ _ _
    rw [body_same]; rfl
/-- over one pipeline. -/
theorem defs_same : Cert.Kernel3.defs (F := Bits) = Cert.Kernel3Ideal.defs (F := Bits) :=
  congrArg (Pipeline.defs Cert.Kernel3Ideal.pcfgs) bodies_same

/-- The program at bit patterns ends with its arguments as launched and its counters at zero. -/
theorem frame_kernel : Cert.quiescent_Kernel3 (hKernel3 := Cert.Kernel3.Gen.facts) := fun m ρ _ => by
  rw [defs_same]
  exact Cert.Kernel3Ideal.Gen.frame (F := Bits) m ρ

end Cert.Prompt

end
-- ==== Proof.lean ====
/- Everything claimed of the layer's calls, assembled. -/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Quiescent
public import proofs.«01_k».proof.Proof.InValue
public import proofs.«01_k».proof.Proof.InFrame
public import proofs.«01_k».proof.Proof.OutValue
public import proofs.«01_k».proof.Proof.OutFrame
public import proofs.«01_k».proof.Proof.MixValue
public import proofs.«01_k».proof.Proof.PromptValue
public import proofs.«01_k».proof.Proof.PromptFrame

@[expose] public section

noncomputable section

namespace Cert.Proof

open Idealize.ShloMosaic Idealize.SL.Sem Cert.Kernel

/-- The sample projection: the frames, -/
theorem sample_ideal : Cert.quiescent_KernelIdeal (hKernelIdeal := Cert.KernelIdeal.Gen.facts) := fun m ρ _ => Cert.KernelIdeal.Gen.frame m ρ
theorem sample_reference : Cert.quiescent_ReferenceIdeal (hReferenceIdeal := Cert.ReferenceIdeal.Gen.facts) := fun m ρ _ =>
  (θ_run Cert.ReferenceIdeal.defs _ _).mono (fun r h => ⟨fun c => ⟨(h c).2.2.2.2.1, (h c).2.2.2.2.2.1, (h c).2.2.2.2.2.2⟩,
      Idealize.ShloMosaic.sem_eq_zero_of_no_sems (by decide) r.2⟩)
    (Cert.ReferenceIdeal.Value.run (F := Ideal) m ρ)
/-- and the four results, equal to the reference's. -/
theorem sample_algebraic : Cert.algebraic_KernelIdeal_ReferenceIdeal (hKernelIdeal := Cert.KernelIdeal.Gen.facts) (hReferenceIdeal := Cert.ReferenceIdeal.Gen.facts) := by
  intro m ρ m' ρ' _ hagree
  refine ⟨_, _, _, _, Cert.Sample.values m ρ, (θ_run Cert.ReferenceIdeal.defs _ _).mono (fun _ h c => ?_) (Cert.ReferenceIdeal.Value.run (F := Ideal) m' ρ')⟩
  obtain ⟨a0, a1, a2⟩ := hagree c
  obtain ⟨h0, h1, h2, h3, h4⟩ := h c
  rw [a0, a1, a2] at h0 h1
  rw [a2] at h2 h3
  exact ⟨h0.trans (Cert.ReferenceIdeal.Read.val_main_v25_eq _ _ _), h1.trans (Cert.ReferenceIdeal.Read.val_main_v27_eq _ _ _),
    h2.trans (Cert.ReferenceIdeal.Read.val_main_v28_eq _), h3.trans (Cert.ReferenceIdeal.Read.val_main_v30_eq _), h4⟩

/-- The output projection: the frames, -/
theorem output_ideal : Cert.quiescent_Kernel2Ideal (hKernel2Ideal := Cert.Kernel2Ideal.Gen.facts) := fun m ρ _ => Cert.Kernel2Ideal.Gen.frame m ρ
theorem output_reference : Cert.quiescent_Reference2Ideal (hReference2Ideal := Cert.Reference2Ideal.Gen.facts) := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)
/-- and the two results, equal to the reference's. -/
theorem output_algebraic : Cert.algebraic_Kernel2Ideal_Reference2Ideal (hKernel2Ideal := Cert.Kernel2Ideal.Gen.facts) (hReference2Ideal := Cert.Reference2Ideal.Gen.facts) := by
  intro m ρ m' ρ' _ hagree
  refine ⟨_, _, Cert.Output.values m ρ, (θ_run Cert.Reference2Ideal.defs _ _).mono (fun _ h c => ?_) (Cert.Reference2Ideal.Value.run (F := Ideal) m' ρ')⟩
  obtain ⟨a0, a1, a2, a3, a4, a5, a6, a7, a8, a9⟩ := hagree c
  obtain ⟨h0, h1, h2⟩ := h c
  rw [a0, a2, a4, a6, a7, a8, a9] at h0
  rw [a1, a3, a5, a6, a7, a8, a9] at h1
  exact ⟨h0.trans (Cert.Reference2Ideal.Read.val_main_v32_eq _ _ _ _ _ _ _), h1.trans (Cert.Reference2Ideal.Read.val_main_v61_eq _ _ _ _ _ _ _), h2⟩

/-- The prompt projection: the frames, -/
theorem prompt_ideal : Cert.quiescent_Kernel3Ideal (hKernel3Ideal := Cert.Kernel3Ideal.Gen.facts) := fun m ρ _ => Cert.Kernel3Ideal.Gen.frame m ρ
theorem prompt_reference : Cert.quiescent_Reference3Ideal (hReference3Ideal := Cert.Reference3Ideal.Gen.facts) := fun m ρ _ =>
  (θ_run Cert.Reference3Ideal.defs _ _).mono (fun r h => ⟨fun c => (h c).2.2.2.2.2.2.2, Idealize.ShloMosaic.sem_eq_zero_of_no_sems (by decide) r.2⟩)
    (Cert.Reference3Ideal.Value.run (F := Ideal) m ρ)
/-- and the seven results, equal to the reference's. -/
theorem prompt_algebraic : Cert.algebraic_Kernel3Ideal_Reference3Ideal (hKernel3Ideal := Cert.Kernel3Ideal.Gen.facts) (hReference3Ideal := Cert.Reference3Ideal.Gen.facts) := by
  intro m ρ m' ρ' _ hagree
  refine ⟨_, _, _, _, _, _, _, Cert.Prompt.values m ρ, (θ_run Cert.Reference3Ideal.defs _ _).mono (fun _ h c => ?_) (Cert.Reference3Ideal.Value.run (F := Ideal) m' ρ')⟩
  obtain ⟨a0, a1, a2, a3, a4, a5, a6, a7, a8⟩ := hagree c
  obtain ⟨h0, h1, h2, h3, h4, h5, h6, h7⟩ := h c
  rw [a0, a1, a2] at h0
  rw [a0, a1, a3] at h1
  rw [a4] at h2
  rw [a5] at h3
  rw [a6] at h4
  rw [a7] at h5
  rw [a8] at h6
  exact ⟨h0.trans (Cert.Reference3Ideal.Read.val_main_v18_eq _ _ _), h1.trans (Cert.Reference3Ideal.Read.val_main_v22_eq _ _ _),
    h2.trans (Cert.Reference3Ideal.Read.val_main_v24_eq _), h3.trans (Cert.Reference3Ideal.Read.val_main_v26_eq _),
    h4.trans (Cert.Reference3Ideal.Read.val_main_v28_eq _), h5.trans (Cert.Reference3Ideal.Read.val_main_v30_eq _),
    h6.trans (Cert.Reference3Ideal.Read.val_main_v32_eq _), h7⟩

/-- The decoded rows' mixing: the frames, -/
theorem decode_kernel : Cert.quiescent_Kernel4 (hKernel4 := Cert.Kernel4.Gen.facts) := fun m ρ _ => Cert.Kernel4.Gen.frame m ρ
theorem decode_ideal : Cert.quiescent_Kernel4Ideal (hKernel4Ideal := Cert.Kernel4Ideal.Gen.facts) := fun m ρ _ => Cert.Kernel4Ideal.Gen.frame m ρ
theorem decode_reference : Cert.quiescent_Reference4Ideal (hReference4Ideal := Cert.Reference4Ideal.Gen.facts) := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)
/-- and the three results, equal to the reference's. -/
theorem decode_algebraic : Cert.algebraic_Kernel4Ideal_Reference4Ideal (hKernel4Ideal := Cert.Kernel4Ideal.Gen.facts) (hReference4Ideal := Cert.Reference4Ideal.Gen.facts) := by
  intro m ρ m' ρ' _ hagree
  refine ⟨_, _, _, Cert.Mix.values m ρ, (θ_run Cert.Reference4Ideal.defs _ _).mono (fun _ h c => ?_) (Cert.Reference4Ideal.Value.run (F := Ideal) m' ρ')⟩
  obtain ⟨a0, a1, a2, a3, a4, a5, a6, a7, a8, a9, a10⟩ := hagree c
  obtain ⟨h0, h1, h2, h3⟩ := h c
  refine ⟨(h0.trans (Cert.Reference4Ideal.Read.val_main_v128_eq _)).trans ?_, (h1.trans (Cert.Reference4Ideal.Read.val_main_v17_eq _)).trans ?_,
    (h2.trans (Cert.Reference4Ideal.Read.val_main_v67_eq _)).trans ?_, h3⟩
  · show Cert.Reference4Ideal.Read.val_main_v128 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7))
      (m' ((c.tc : Thread Cert.Reference4Ideal.nD Cert.Reference4Ideal.τ).loc Cert.Reference4Ideal.main_arg8))
      (m' ((c.tc : Thread Cert.Reference4Ideal.nD Cert.Reference4Ideal.τ).loc Cert.Reference4Ideal.main_arg9))
      (m' ((c.tc : Thread Cert.Reference4Ideal.nD Cert.Reference4Ideal.τ).loc Cert.Reference4Ideal.main_arg10)) = _
    rw [a0, a1, a2, a3, a4, a5, a6, a7, a8, a9, a10]
  · show Cert.Reference4Ideal.Read.val_main_v17 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg3)) = _
    rw [a0, a3]
  · show Cert.Reference4Ideal.Read.val_main_v67 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7)) = _
    rw [a0, a1, a2, a6, a7]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Sample.frame_kernel, sample_ideal, sample_reference, Cert.Output.frame_kernel, output_ideal, output_reference,
    Cert.Prompt.frame_kernel, prompt_ideal, prompt_reference,
    decode_kernel, decode_ideal, decode_reference,
    trivial, sample_algebraic, trivial, output_algebraic, trivial, prompt_algebraic, trivial, decode_algebraic⟩

end Cert.Proof

end
